-- ==== Defs.lean ====
def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_finite_moe [hPre_finite_moe : Cert.Pre_finite_moe.Facts] (m : (ℓ : Loc Cert.MoeIdeal.nD Cert.MoeIdeal.τ Cert.MoeIdeal.sig) → Buf (Elt Ideal) ℓ) : Prop :=
  ∀ c : Dev Cert.MoeIdeal.nD,
    (Cert.Pre_finite_moe.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_finite_moe [hPre_finite_moe : Cert.Pre_finite_moe.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_finite_moe.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_finite_moe [hMoeIdeal : Cert.MoeIdeal.Facts] [hPre_finite_moe : Cert.Pre_finite_moe.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_finite_moe m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_finite_moe [hMoeRefIdeal : Cert.MoeRefIdeal.Facts] [hPre_finite_moe : Cert.Pre_finite_moe.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_finite_moe m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)) →
    ∃ (v0 : (c : Dev Cert.CrossIdeal.nD) → Buf (Elt Ideal) ((c.tc : Thread Cert.CrossIdeal.nD Cert.CrossIdeal.τ).loc Cert.CrossIdeal.main_v3)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v3) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v38) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v26)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v26) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v83) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Moe_MoeIdeal : Prop :=
  True

def algebraic_MoeIdeal_MoeRefIdeal_pre_finite_moe [hMoeIdeal : Cert.MoeIdeal.Facts] [hMoeRefIdeal : Cert.MoeRefIdeal.Facts] [hPre_finite_moe : Cert.Pre_finite_moe.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_finite_moe m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v6)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v6) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v164) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def Claim : Prop :=
  ∃ (hCross : Cert.Cross.Facts) (hCrossIdeal : Cert.CrossIdeal.Facts) (hCrossRefIdeal : Cert.CrossRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hMoe : Cert.Moe.Facts) (hMoeIdeal : Cert.MoeIdeal.Facts) (hMoeRefIdeal : Cert.MoeRefIdeal.Facts) (hPre_finite_moe : Cert.Pre_finite_moe.Facts),
    quiescent_Cross (hCross := hCross)
    ∧ quiescent_CrossIdeal (hCrossIdeal := hCrossIdeal)
    ∧ quiescent_CrossRefIdeal (hCrossRefIdeal := hCrossRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Moe (hMoe := hMoe)
    ∧ quiescent_MoeIdeal (hMoeIdeal := hMoeIdeal)
    ∧ quiescent_MoeIdeal_pre_finite_moe (hMoeIdeal := hMoeIdeal) (hPre_finite_moe := hPre_finite_moe)
    ∧ quiescent_MoeRefIdeal (hMoeRefIdeal := hMoeRefIdeal)
    ∧ quiescent_MoeRefIdeal_pre_finite_moe (hMoeRefIdeal := hMoeRefIdeal) (hPre_finite_moe := hPre_finite_moe)
    ∧ preserves_Cross_CrossIdeal
    ∧ algebraic_CrossIdeal_CrossRefIdeal (hCrossIdeal := hCrossIdeal) (hCrossRefIdeal := hCrossRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Moe_MoeIdeal
    ∧ algebraic_MoeIdeal_MoeRefIdeal_pre_finite_moe (hMoeIdeal := hMoeIdeal) (hMoeRefIdeal := hMoeRefIdeal) (hPre_finite_moe := hPre_finite_moe)
-- ==== Pre_finite_moe.lean ====
abbrev S65536x1024 : Shape := ⟨2, ![65536, 1024]⟩
abbrev S1024 : Shape := ⟨1, ![1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S1x1024 : Shape := ⟨2, ![1, 1024]⟩
abbrev S8x1024 : Shape := ⟨2, ![8, 1024]⟩
abbrev S65545x1024 : Shape := ⟨2, ![65545, 1024]⟩
abbrev S_ : Shape := ⟨0, ![]⟩

class Facts : Prop where
  bcast_S1024_S1x1024_1 : S1024.BroadcastsInDim S1x1024 (![1] : Fin 1 → Fin S1x1024.rank)
  transposes_S1024x8_S8x1024_1_0 : S1024x8.Transposes [1, 0] S8x1024
  concatenates_S65536x1024_S1x1024_S8x1024_S65545x1024_d0 : Shape.Concatenates [S65536x1024, S1x1024, S8x1024] S65545x1024 0
  bcast_S_S65545x1024 : S_.BroadcastsInDim S65545x1024 (![] : Fin 0 → Fin S65545x1024.rank)

variable [Facts]

def fn {F : FTy → Type} [FloatOps F] (main_arg0 : FVec F S65536x1024 .f32) (main_arg1 : FVec F S1024 .f32) (main_arg2 : FVec F S1024x8 .f32) (main_arg3 : FVec F S8x1024x2816 .f32) (main_arg4 : FVec F S8x1024x2816 .f32) (main_arg5 : FVec F S8x2816x1024 .f32) (main_arg6 : FVec F S1024 .f32) : IVec S65545x1024 1 :=
  let main_v0 : FVec F S1x1024 .f32 := broadcastInDim S1x1024 ![1] bcast_S1024_S1x1024_1 main_arg1
  let main_v1 : FVec F S8x1024 .f32 := (transpose S8x1024 [1, 0] · transposes_S1024x8_S8x1024_1_0) main_arg2
  let main_v2 : FVec F S65545x1024 .f32 := concatenate S65545x1024 0 [⟨S65536x1024, main_arg0⟩, ⟨S1x1024, main_v0⟩, ⟨S8x1024, main_v1⟩] concatenates_S65536x1024_S1x1024_S8x1024_S65545x1024_d0
  let main_v3 : FVec F S65545x1024 .f32 := Host.absf main_v2
  let main_cst : FVec F S_ .f32 := constant S_ .f32 0x7F800000#32
  let main_v4 : FVec F S65545x1024 .f32 := broadcastInDim S65545x1024 ![] bcast_S_S65545x1024 main_cst
  let main_v5 : IVec S65545x1024 1 := cmpf .olt main_v3 main_v4
  main_v5
-- ==== Cross.lean ====
abbrev S32x2048x1024 : Shape := ⟨3, ![32, 2048, 1024]⟩
abbrev S1024 : Shape := ⟨1, ![1024]⟩
abbrev S1024x256 : Shape := ⟨2, ![1024, 256]⟩
abbrev S32x256x1024 : Shape := ⟨3, ![32, 256, 1024]⟩
abbrev S256x1024 : Shape := ⟨2, ![256, 1024]⟩
abbrev S1x1024 : Shape := ⟨2, ![1, 1024]⟩
abbrev S1x512x1024 : Shape := ⟨3, ![1, 512, 1024]⟩
abbrev S1x256x256 : Shape := ⟨3, ![1, 256, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 9
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x256, .f32⟩
  | .hbm, ⟨3, _⟩ => ⟨S32x256x1024, .bf16⟩
  | .hbm, ⟨4, _⟩ => ⟨S256x1024, .f32⟩
  | .hbm, ⟨5, _⟩ => ⟨S1x1024, .f32⟩
  | .hbm, ⟨6, _⟩ => ⟨S1024x256, .bf16⟩
  | .hbm, ⟨7, _⟩ => ⟨S256x1024, .bf16⟩
  | .hbm, ⟨8, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S256x1024, .bf16⟩
  | .local _ .vmem, ⟨9, _⟩ => ⟨S1x512x1024, .f32⟩
  | .local _ .vmem, ⟨10, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CrossRefIdeal.lean ====
abbrev S32x2048x1024 : Shape := ⟨3, ![32, 2048, 1024]⟩
abbrev S1024 : Shape := ⟨1, ![1024]⟩
abbrev S1024x256 : Shape := ⟨2, ![1024, 256]⟩
abbrev S32x256x1024 : Shape := ⟨3, ![32, 256, 1024]⟩
abbrev S256x1024 : Shape := ⟨2, ![256, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x256 : Shape := ⟨3, ![32, 2048, 256]⟩
abbrev S32x2048x4x64 : Shape := ⟨4, ![32, 2048, 4, 64]⟩
abbrev S32x256x256 : Shape := ⟨3, ![32, 256, 256]⟩
abbrev S32x256x4x64 : Shape := ⟨4, ![32, 256, 4, 64]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x64x2048 : Shape := ⟨4, ![32, 4, 64, 2048]⟩

abbrev nBuf : Space → Nat
  | .hbm => 51
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x256, .f32⟩
  | .hbm, ⟨3, _⟩ => ⟨S32x256x1024, .bf16⟩
  | .hbm, ⟨4, _⟩ => ⟨S256x1024, .f32⟩
  | .hbm, ⟨5, _⟩ => ⟨S32x2048x1024, .f32⟩
  | .hbm, ⟨6, _⟩ => ⟨S_, .f32⟩
  | .hbm, ⟨7, _⟩ => ⟨S32x2048, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S32x2048x1, .f32⟩
  | .hbm, ⟨16, _⟩ => ⟨S32x2048x1024, .f32⟩
  | .hbm, ⟨17, _⟩ => ⟨S32x2048x1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S32x2048x256, .f32⟩
  | .hbm, ⟨22, _⟩ => ⟨S32x2048x4x64, .f32⟩
  | .hbm, ⟨23, _⟩ => ⟨S_, .f32⟩
  | .hbm, ⟨24, _⟩ => ⟨S32x2048x4x64, .f32⟩
  | .hbm, ⟨25, _⟩ => ⟨S32x2048x4x64, .f32⟩
  | .hbm, ⟨26, _⟩ => ⟨S32x256x1024, .f32⟩
  | .hbm, ⟨27, _⟩ => ⟨S32x256x256, .f32⟩
  | .hbm, ⟨28, _⟩ => ⟨S32x256x4x64, .f32⟩
  | .hbm, ⟨29, _⟩ => ⟨S32x256x256, .f32⟩
  | .hbm, ⟨30, _⟩ => ⟨S32x256x4x64, .f32⟩
  | .hbm, ⟨31, _⟩ => ⟨S32x4x2048x256, .f32⟩
  | .hbm, ⟨32, _⟩ => ⟨S_, .f32⟩
  | .hbm, ⟨33, _⟩ => ⟨S32x4x2048, .f32⟩
  | .hbm, ⟨34, _⟩ => ⟨S_, .f32⟩
  | .hbm, ⟨35, _⟩ => ⟨S32x4x2048, .f32⟩
  | .hbm, ⟨36, _⟩ => ⟨S32x4x2048, .f32⟩
  | .hbm, ⟨37, _⟩ => ⟨S32x4x2048x1, .f32⟩
  | .hbm, ⟨38, _⟩ => ⟨S32x4x2048x256, .f32⟩
  | .hbm, ⟨39, _⟩ => ⟨S32x4x2048x256, .f32⟩
  | .hbm, ⟨40, _⟩ => ⟨S32x4x2048x256, .f32⟩
  | .hbm, ⟨41, _⟩ => ⟨S_, .f32⟩
  | .hbm, ⟨42, _⟩ => ⟨S32x4x2048, .f32⟩
  | .hbm, ⟨43, _⟩ => ⟨S32x4x2048x1, .f32⟩
  | .hbm, ⟨44, _⟩ => ⟨S32x4x2048x256, .f32⟩
  | .hbm, ⟨45, _⟩ => ⟨S32x4x2048x256, .f32⟩
  | .hbm, ⟨46, _⟩ => ⟨S32x4x64x2048, .f32⟩
  | .hbm, ⟨47, _⟩ => ⟨S32x2048x4x64, .f32⟩
  | .hbm, ⟨48, _⟩ => ⟨S32x2048x256, .f32⟩
  | .hbm, ⟨49, _⟩ => ⟨S32x2048x1024, .f32⟩
  | .hbm, ⟨50, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Ffn.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x2816, .f32⟩
  | .hbm, ⟨22, _⟩ => ⟨S65536x2816, .f32⟩
  | .hbm, ⟨23, _⟩ => ⟨S65536x2816, .f32⟩
  | .hbm, ⟨24, _⟩ => ⟨S_, .f32⟩
  | .hbm, ⟨25, _⟩ => ⟨S65536x2816, .f32⟩
  | .hbm, ⟨26, _⟩ => ⟨S65536x2816, .f32⟩
  | .hbm, ⟨27, _⟩ => ⟨S_, .f32⟩
  | .hbm, ⟨28, _⟩ => ⟨S65536x2816, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x1024, .f32⟩
  | .hbm, ⟨34, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Merge.lean ====
abbrev S32x2048x1024 : Shape := ⟨3, ![32, 2048, 1024]⟩
abbrev S32x2048x256 : Shape := ⟨3, ![32, 2048, 256]⟩
abbrev S4x1024x1024 : Shape := ⟨3, ![4, 1024, 1024]⟩
abbrev S4x1024 : Shape := ⟨2, ![4, 1024]⟩
abbrev S4x256x1024 : Shape := ⟨3, ![4, 256, 1024]⟩
abbrev S1024x1024 : Shape := ⟨2, ![1024, 1024]⟩
abbrev S4 : Shape := ⟨1, ![4]⟩
abbrev S32x2048x4x64 : Shape := ⟨4, ![32, 2048, 4, 64]⟩
abbrev S_ : Shape := ⟨0, ![]⟩
abbrev S4x1 : Shape := ⟨2, ![4, 1]⟩
abbrev S1x256x1024 : Shape := ⟨3, ![1, 256, 1024]⟩
abbrev S256x1024 : Shape := ⟨2, ![256, 1024]⟩
abbrev S4x64x1024 : Shape := ⟨3, ![4, 64, 1024]⟩
abbrev S3x256x1024 : Shape := ⟨3, ![3, 256, 1024]⟩
abbrev S1x512x1024 : Shape := ⟨3, ![1, 512, 1024]⟩
abbrev S1x512x256 : Shape := ⟨3, ![1, 512, 256]⟩
abbrev S512x1024 : Shape := ⟨2, ![512, 1024]⟩
abbrev S1x1024x1024 : Shape := ⟨3, ![1, 1024, 1024]⟩
abbrev S1x1024 : Shape := ⟨2, ![1, 1024]⟩
abbrev S512x256 : Shape := ⟨2, ![512, 256]⟩

abbrev nBuf : Space → Nat
  | .hbm => 43
  | .vmem => 18
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .bf16⟩
  | .hbm, ⟨2, _⟩ => ⟨S32x2048x256, .bf16⟩
  | .hbm, ⟨3, _⟩ => ⟨S32x2048x256, .bf16⟩
  | .hbm, ⟨4, _⟩ => ⟨S32x2048x256, .bf16⟩
  | .hbm, ⟨5, _⟩ => ⟨S32x2048x256, .bf16⟩
  | .hbm, ⟨6, _⟩ => ⟨S4x1024x1024, .f32⟩
  | .hbm, ⟨7, _⟩ => ⟨S4x1024, .f32⟩
  | .hbm, ⟨8, _⟩ => ⟨S4x256x1024, .f32⟩
  | .hbm, ⟨9, _⟩ => ⟨S1024x1024, .f32⟩
  | .hbm, ⟨10, _⟩ => ⟨S4, .i32⟩
  | .hbm, ⟨11, _⟩ => ⟨S4, .i32⟩
  | .hbm, ⟨12, _⟩ => ⟨S32x2048x4x64, .bf16⟩
  | .hbm, ⟨13, _⟩ => ⟨S_, .i32⟩
  | .hbm, ⟨14, _⟩ => ⟨S4, .i32⟩
  | .hbm, ⟨15, _⟩ => ⟨S4, .i1⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S4, .i32⟩
  | .hbm, ⟨20, _⟩ => ⟨S4x1, .i32⟩
  | .hbm, ⟨21, _⟩ => ⟨S32x2048x4x64, .bf16⟩
  | .hbm, ⟨22, _⟩ => ⟨S32x2048x256, .bf16⟩
  | .hbm, ⟨23, _⟩ => ⟨S1x256x1024, .f32⟩
  | .hbm, ⟨24, _⟩ => ⟨S256x1024, .f32⟩
  | .hbm, ⟨25, _⟩ => ⟨S4x64x1024, .f32⟩
  | .hbm, ⟨26, _⟩ => ⟨S_, .i32⟩
  | .hbm, ⟨27, _⟩ => ⟨S4, .i32⟩
  | .hbm, ⟨28, _⟩ => ⟨S4, .i1⟩
  | .hbm, ⟨29, _⟩ => ⟨S_, .i32⟩
  | .hbm, ⟨30, _⟩ => ⟨S4, .i32⟩
  | .hbm, ⟨31, _⟩ => ⟨S4, .i32⟩
  | .hbm, ⟨32, _⟩ => ⟨S4, .i32⟩
  | .hbm, ⟨33, _⟩ => ⟨S4x1, .i32⟩
  | .hbm, ⟨34, _⟩ => ⟨S4x64x1024, .f32⟩
  | .hbm, ⟨35, _⟩ => ⟨S256x1024, .f32⟩
  | .hbm, ⟨36, _⟩ => ⟨S1x256x1024, .f32⟩
  | .hbm, ⟨37, _⟩ => ⟨S3x256x1024, .f32⟩
  | .hbm, ⟨38, _⟩ => ⟨S4x256x1024, .f32⟩
  | .hbm, ⟨39, _⟩ => ⟨S4x256x1024, .bf16⟩
  | .hbm, ⟨40, _⟩ => ⟨S4x1024x1024, .bf16⟩
  | .hbm, ⟨41, _⟩ => ⟨S1024x1024, .bf16⟩
  | .hbm, ⟨42, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S4x1024x1024, .bf16⟩
  | .local _ .vmem, ⟨13, _⟩ => ⟨S4x1024, .f32⟩
  | .local _ .vmem, ⟨14, _⟩ => ⟨S4x256x1024, .bf16⟩
  | .local _ .vmem, ⟨15, _⟩ => ⟨S1024x1024, .bf16⟩
  | .local _ .vmem, ⟨16, _⟩ => ⟨S1x512x1024, .f32⟩
  | .local _ .vmem, ⟨17, _⟩ => ⟨S1x512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_c_1 : Ref sig .tc := ⟨.hbm, 13, rfl⟩
abbrev main_v1 : Ref sig .tc := ⟨.hbm, 14, rfl⟩
abbrev main_v2 : Ref sig .tc := ⟨.hbm, 15, rfl⟩
abbrev main_c_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S32x2048x1024 : Shape := ⟨3, ![32, 2048, 1024]⟩
abbrev S32x2048x256 : Shape := ⟨3, ![32, 2048, 256]⟩
abbrev S4x1024x1024 : Shape := ⟨3, ![4, 1024, 1024]⟩
abbrev S4x1024 : Shape := ⟨2, ![4, 1024]⟩
abbrev S4x256x1024 : Shape := ⟨3, ![4, 256, 1024]⟩
abbrev S1024x1024 : Shape := ⟨2, ![1024, 1024]⟩
abbrev S_ : Shape := ⟨0, ![]⟩
abbrev S1x1024x1024 : Shape := ⟨3, ![1, 1024, 1024]⟩
abbrev S1x1024 : Shape := ⟨2, ![1, 1024]⟩
abbrev S1024 : Shape := ⟨1, ![1024]⟩
abbrev S1x1x1024 : Shape := ⟨3, ![1, 1, 1024]⟩
abbrev S1x256x1024 : Shape := ⟨3, ![1, 256, 1024]⟩
abbrev S256x1024 : Shape := ⟨2, ![256, 1024]⟩

abbrev nBuf : Space → Nat
  | .hbm => 103
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .bf16⟩
  | .hbm, ⟨2, _⟩ => ⟨S32x2048x256, .bf16⟩
  | .hbm, ⟨3, _⟩ => ⟨S32x2048x256, .bf16⟩
  | .hbm, ⟨4, _⟩ => ⟨S32x2048x256, .bf16⟩
  | .hbm, ⟨5, _⟩ => ⟨S32x2048x256, .bf16⟩
  | .hbm, ⟨6, _⟩ => ⟨S4x1024x1024, .f32⟩
  | .hbm, ⟨7, _⟩ => ⟨S4x1024, .f32⟩
  | .hbm, ⟨8, _⟩ => ⟨S4x256x1024, .f32⟩
  | .hbm, ⟨9, _⟩ => ⟨S1024x1024, .f32⟩
  | .hbm, ⟨10, _⟩ => ⟨S32x2048x1024, .f32⟩
  | .hbm, ⟨11, _⟩ => ⟨S_, .f32⟩
  | .hbm, ⟨12, _⟩ => ⟨S32x2048x1024, .f32⟩
  | .hbm, ⟨13, _⟩ => ⟨S1x1024x1024, .f32⟩
  | .hbm, ⟨14, _⟩ => ⟨S1024x1024, .f32⟩
  | .hbm, ⟨15, _⟩ => ⟨S32x2048x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S32x2048x1024, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S_, .f32⟩
  | .hbm, ⟨24, _⟩ => ⟨S32x2048x1024, .f32⟩
  | .hbm, ⟨25, _⟩ => ⟨S32x2048x1024, .f32⟩
  | .hbm, ⟨26, _⟩ => ⟨S_, .f32⟩
  | .hbm, ⟨27, _⟩ => ⟨S32x2048x1024, .f32⟩
  | .hbm, ⟨28, _⟩ => ⟨S32x2048x1024, .f32⟩
  | .hbm, ⟨29, _⟩ => ⟨S32x2048x256, .f32⟩
  | .hbm, ⟨30, _⟩ => ⟨S1x256x1024, .f32⟩
  | .hbm, ⟨31, _⟩ => ⟨S256x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S1x1024x1024, .f32⟩
  | .hbm, ⟨36, _⟩ => ⟨S1024x1024, .f32⟩
  | .hbm, ⟨37, _⟩ => ⟨S32x2048x1024, .f32⟩
  | .hbm, ⟨38, _⟩ => ⟨S1x1024, .f32⟩
  | .hbm, ⟨39, _⟩ => ⟨S1024, .f32⟩
  | .hbm, ⟨40, _⟩ => ⟨S1x1x1024, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S_, .f32⟩
  | .hbm, ⟨46, _⟩ => ⟨S32x2048x1024, .f32⟩
  | .hbm, ⟨47, _⟩ => ⟨S32x2048x1024, .f32⟩
  | .hbm, ⟨48, _⟩ => ⟨S_, .f32⟩
  | .hbm, ⟨49, _⟩ => ⟨S32x2048x1024, .f32⟩
  | .hbm, ⟨50, _⟩ => ⟨S32x2048x1024, .f32⟩
  | .hbm, ⟨51, _⟩ => ⟨S32x2048x256, .f32⟩
  | .hbm, ⟨52, _⟩ => ⟨S1x256x1024, .f32⟩
  | .hbm, ⟨53, _⟩ => ⟨S256x1024, .f32⟩
  | .hbm, ⟨54, _⟩ => ⟨S32x2048x1024, .f32⟩
  | .hbm, ⟨55, _⟩ => ⟨S32x2048x1024, .f32⟩
  | .hbm, ⟨56, _⟩ => ⟨S32x2048x1024, .f32⟩
  | .hbm, ⟨57, _⟩ => ⟨S1x1024x1024, .f32⟩
  | .hbm, ⟨58, _⟩ => ⟨S1024x1024, .f32⟩
  | .hbm, ⟨59, _⟩ => ⟨S32x2048x1024, .f32⟩
  | .hbm, ⟨60, _⟩ => ⟨S1x1024, .f32⟩
  | .hbm, ⟨61, _⟩ => ⟨S1024, .f32⟩
  | .hbm, ⟨62, _⟩ => ⟨S1x1x1024, .f32⟩
  | .hbm, ⟨63, _⟩ => ⟨S32x2048x1024, .f32⟩
  | .hbm, ⟨64, _⟩ => ⟨S32x2048x1024, .f32⟩
  | .hbm, ⟨65, _⟩ => ⟨S32x2048x1024, .f32⟩
  | .hbm, ⟨66, _⟩ => ⟨S32x2048x1024, .f32⟩
  | .hbm, ⟨67, _⟩ => ⟨S_, .f32⟩
  | .hbm, ⟨68, _⟩ => ⟨S32x2048x1024, .f32⟩
  | .hbm, ⟨69, _⟩ => ⟨S32x2048x1024, .f32⟩
  | .hbm, ⟨70, _⟩ => ⟨S_, .f32⟩
  | .hbm, ⟨71, _⟩ => ⟨S32x2048x1024, .f32⟩
  | .hbm, ⟨72, _⟩ => ⟨S32x2048x1024, .f32⟩
  | .hbm, ⟨73, _⟩ => ⟨S32x2048x256, .f32⟩
  | .hbm, ⟨74, _⟩ => ⟨S1x256x1024, .f32⟩
  | .hbm, ⟨75, _⟩ => ⟨S256x1024, .f32⟩
  | .hbm, ⟨76, _⟩ => ⟨S32x2048x1024, .f32⟩
  | .hbm, ⟨77, _⟩ => ⟨S32x2048x1024, .f32⟩
  | .hbm, ⟨78, _⟩ => ⟨S32x2048x1024, .f32⟩
  | .hbm, ⟨79, _⟩ => ⟨S1x1024x1024, .f32⟩
  | .hbm, ⟨80, _⟩ => ⟨S1024x1024, .f32⟩
  | .hbm, ⟨81, _⟩ => ⟨S32x2048x1024, .f32⟩
  | .hbm, ⟨82, _⟩ => ⟨S1x1024, .f32⟩
  | .hbm, ⟨83, _⟩ => ⟨S1024, .f32⟩
  | .hbm, ⟨84, _⟩ => ⟨S1x1x1024, .f32⟩
  | .hbm, ⟨85, _⟩ => ⟨S32x2048x1024, .f32⟩
  | .hbm, ⟨86, _⟩ => ⟨S32x2048x1024, .f32⟩
  | .hbm, ⟨87, _⟩ => ⟨S32x2048x1024, .f32⟩
  | .hbm, ⟨88, _⟩ => ⟨S32x2048x1024, .f32⟩
  | .hbm, ⟨89, _⟩ => ⟨S_, .f32⟩
  | .hbm, ⟨90, _⟩ => ⟨S32x2048x1024, .f32⟩
  | .hbm, ⟨91, _⟩ => ⟨S32x2048x1024, .f32⟩
  | .hbm, ⟨92, _⟩ => ⟨S_, .f32⟩
  | .hbm, ⟨93, _⟩ => ⟨S32x2048x1024, .f32⟩
  | .hbm, ⟨94, _⟩ => ⟨S32x2048x1024, .f32⟩
  | .hbm, ⟨95, _⟩ => ⟨S32x2048x256, .f32⟩
  | .hbm, ⟨96, _⟩ => ⟨S1x256x1024, .f32⟩
  | .hbm, ⟨97, _⟩ => ⟨S256x1024, .f32⟩
  | .hbm, ⟨98, _⟩ => ⟨S32x2048x1024, .f32⟩
  | .hbm, ⟨99, _⟩ => ⟨S32x2048x1024, .f32⟩
  | .hbm, ⟨100, _⟩ => ⟨S32x2048x1024, .f32⟩
  | .hbm, ⟨101, _⟩ => ⟨S32x2048x1024, .f32⟩
  | .hbm, ⟨102, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_4 : Ref sig .tc := ⟨.hbm, 67, rfl⟩
abbrev main_v52 : Ref sig .tc := ⟨.hbm, 68, rfl⟩
abbrev main_v53 : Ref sig .tc := ⟨.hbm, 69, rfl⟩
abbrev main_cst_5 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_6 : Ref sig .tc := ⟨.hbm, 89, rfl⟩
abbrev main_v72 : Ref sig .tc := ⟨.hbm, 90, rfl⟩
abbrev main_v73 : Ref sig .tc := ⟨.hbm, 91, rfl⟩
abbrev main_cst_7 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩

abbrev nD : Nat := 1
abbrev τ : Topo := Topo.v7x

variable {F : FTy → Type} [FloatOps F]
-- ==== Moe.lean ====
abbrev S65536x1024 : Shape := ⟨2, ![65536, 1024]⟩
abbrev S1024 : Shape := ⟨1, ![1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S_ : Shape := ⟨0, ![]⟩
abbrev S1024x128 : Shape := ⟨2, ![1024, 128]⟩
abbrev S1x1024 : Shape := ⟨2, ![1, 1024]⟩
abbrev S1024x1024 : Shape := ⟨2, ![1024, 1024]⟩
abbrev S1x1024x256 : Shape := ⟨3, ![1, 1024, 256]⟩
abbrev S1x256x1024 : Shape := ⟨3, ![1, 256, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 16
  | .vmem => 16
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x8, .f32⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S1024, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1x1024, .f32⟩
  | .hbm, ⟨11, _⟩ => ⟨S8x1024x2816, .bf16⟩
  | .hbm, ⟨12, _⟩ => ⟨S8x1024x2816, .bf16⟩
  | .hbm, ⟨13, _⟩ => ⟨S8x2816x1024, .bf16⟩
  | .hbm, ⟨14, _⟩ => ⟨S1x1024, .f32⟩
  | .hbm, ⟨15, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .f32⟩
  | .local _ .vmem, ⟨15, _⟩ => ⟨S1024x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![64, 8, 11], ![false, false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let arg2 : BitVec 32 := BitVec.ofNat 32 (i 2).val
  let c10_i32 : BitVec 32 := 10#32
  let v35 : BitVec 1 := Scalar.cmpi .eq arg2 c10_i32
  let v36 : BitVec 1 := Scalar.andi v34 v35
  let v37 : BitVec 32 := Scalar.extui v36
  let c0_i32_22 : BitVec 32 := 0#32
  let v38 : BitVec 1 := Scalar.cmpi .ne v37 c0_i32_22
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MoeRefIdeal.lean ====
abbrev S65536x1024 : Shape := ⟨2, ![65536, 1024]⟩
abbrev S1024 : Shape := ⟨1, ![1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x8 : Shape := ⟨2, ![65536, 8]⟩
abbrev S65536x2 : Shape := ⟨2, ![65536, 2]⟩
abbrev S65536x2x1 : Shape := ⟨3, ![65536, 2, 1]⟩
abbrev S1x1x8 : Shape := ⟨3, ![1, 1, 8]⟩
abbrev S65536x2x8 : Shape := ⟨3, ![65536, 2, 8]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S65536x2816 : Shape := ⟨2, ![65536, 2816]⟩

abbrev nBuf : Space → Nat
  | .hbm => 254
  | .vmem => 0
  | .smem => 0
  | _ => 0

abbrev hbmTy0_0 (i : Nat) : BufTy := match i % 128 with
  | 0 => ⟨S65536x1024, .f32⟩
  | 1 => ⟨S1024, .f32⟩
  | 2 => ⟨S1024x8, .f32⟩
  | 3 => ⟨S8x1024x2816, .f32⟩
  | 4 => ⟨S8x1024x2816, .f32⟩
  | 5 => ⟨S8x2816x1024, .f32⟩
  | 6 => ⟨S1024, .f32⟩
  | 7 => ⟨S65536x1024, .f32⟩
  | 8 => ⟨S_, .f32⟩
  | 9 => ⟨S65536, .f32⟩
  | 10 => ⟨S65536x1, .f32⟩
  | 11 => ⟨S_, .f32⟩
  | 12 => ⟨S65536x1, .f32⟩
  | 13 => ⟨S65536x1, .f32⟩
  | 14 => ⟨S_, .f32⟩
  | 15 => ⟨S65536x1, .f32⟩
  | 16 => ⟨S65536x1, .f32⟩
  | 17 => ⟨S65536x1, .f32⟩
  | 18 => ⟨S65536x1024, .f32⟩
  | 19 => ⟨S65536x1024, .f32⟩
  | 20 => ⟨S1x1024, .f32⟩
  | 21 => ⟨S65536x1024, .f32⟩
  | 22 => ⟨S65536x1024, .f32⟩
  | 23 => ⟨S65536x8, .f32⟩
  | 24 => ⟨S65536x2, .f32⟩
  | 25 => ⟨S65536x2, .i32⟩
  | 26 => ⟨S_, .f32⟩
  | 27 => ⟨S65536, .f32⟩
  | 28 => ⟨S_, .f32⟩
  | 29 => ⟨S65536, .f32⟩
  | 30 => ⟨S65536, .f32⟩
  | 31 => ⟨S65536x1, .f32⟩
  | 32 => ⟨S65536x2, .f32⟩
  | 33 => ⟨S65536x2, .f32⟩
  | 34 => ⟨S65536x2, .f32⟩
  | 35 => ⟨S_, .f32⟩
  | 36 => ⟨S65536, .f32⟩
  | 37 => ⟨S65536x1, .f32⟩
  | 38 => ⟨S65536x2, .f32⟩
  | 39 => ⟨S65536x2, .f32⟩
  | 40 => ⟨S65536x2x1, .i32⟩
  | 41 => ⟨S1x1x8, .i32⟩
  | 42 => ⟨S65536x2x8, .i32⟩
  | 43 => ⟨S65536x2x8, .i32⟩
  | 44 => ⟨S65536x2x8, .i1⟩
  | 45 => ⟨S65536x2x8, .f32⟩
  | 46 => ⟨S65536x2x1, .f32⟩
  | 47 => ⟨S65536x2x8, .f32⟩
  | 48 => ⟨S65536x2x8, .f32⟩
  | 49 => ⟨S_, .f32⟩
  | 50 => ⟨S65536x8, .f32⟩
  | 51 => ⟨S_, .f32⟩
  | 52 => ⟨S65536x1024, .f32⟩
  | 53 => ⟨S65536x1, .f32⟩
  | 54 => ⟨S1x1024x2816, .f32⟩
  | 55 => ⟨S1024x2816, .f32⟩
  | 56 => ⟨S1x1024x2816, .f32⟩
  | 57 => ⟨S1024x2816, .f32⟩
  | 58 => ⟨S1x2816x1024, .f32⟩
  | 59 => ⟨S2816x1024, .f32⟩
  | 60 => ⟨S65536x2816, .f32⟩
  | 61 => ⟨S65536x2816, .f32⟩
  | 62 => ⟨S65536x2816, .f32⟩
  | 63 => ⟨S_, .f32⟩
  | 64 => ⟨S65536x2816, .f32⟩
  | 65 => ⟨S65536x2816, .f32⟩
  | 66 => ⟨S_, .f32⟩
  | 67 => ⟨S65536x2816, .f32⟩
  | 68 => ⟨S65536x2816, .f32⟩
  | 69 => ⟨S65536x2816, .f32⟩
  | 70 => ⟨S65536x2816, .f32⟩
  | 71 => ⟨S65536x2816, .f32⟩
  | 72 => ⟨S65536x1024, .f32⟩
  | 73 => ⟨S65536x1024, .f32⟩
  | 74 => ⟨S65536x1024, .f32⟩
  | 75 => ⟨S65536x1024, .f32⟩
  | 76 => ⟨S65536x1, .f32⟩
  | 77 => ⟨S1x1024x2816, .f32⟩
  | 78 => ⟨S1024x2816, .f32⟩
  | 79 => ⟨S1x1024x2816, .f32⟩
  | 80 => ⟨S1024x2816, .f32⟩
  | 81 => ⟨S1x2816x1024, .f32⟩
  | 82 => ⟨S2816x1024, .f32⟩
  | 83 => ⟨S65536x2816, .f32⟩
  | 84 => ⟨S65536x2816, .f32⟩
  | 85 => ⟨S65536x2816, .f32⟩
  | 86 => ⟨S_, .f32⟩
  | 87 => ⟨S65536x2816, .f32⟩
  | 88 => ⟨S65536x2816, .f32⟩
  | 89 => ⟨S_, .f32⟩
  | 90 => ⟨S65536x2816, .f32⟩
  | 91 => ⟨S65536x2816, .f32⟩
  | 92 => ⟨S65536x2816, .f32⟩
  | 93 => ⟨S65536x2816, .f32⟩
  | 94 => ⟨S65536x2816, .f32⟩
  | 95 => ⟨S65536x1024, .f32⟩
  | 96 => ⟨S65536x1024, .f32⟩
  | 97 => ⟨S65536x1024, .f32⟩
  | 98 => ⟨S65536x1024, .f32⟩
  | 99 => ⟨S65536x1, .f32⟩
  | 100 => ⟨S1x1024x2816, .f32⟩
  | 101 => ⟨S1024x2816, .f32⟩
  | 102 => ⟨S1x1024x2816, .f32⟩
  | 103 => ⟨S1024x2816, .f32⟩
  | 104 => ⟨S1x2816x1024, .f32⟩
  | 105 => ⟨S2816x1024, .f32⟩
  | 106 => ⟨S65536x2816, .f32⟩
  | 107 => ⟨S65536x2816, .f32⟩
  | 108 => ⟨S65536x2816, .f32⟩
  | 109 => ⟨S_, .f32⟩
  | 110 => ⟨S65536x2816, .f32⟩
  | 111 => ⟨S65536x2816, .f32⟩
  | 112 => ⟨S_, .f32⟩
  | 113 => ⟨S65536x2816, .f32⟩
  | 114 => ⟨S65536x2816, .f32⟩
  | 115 => ⟨S65536x2816, .f32⟩
  | 116 => ⟨S65536x2816, .f32⟩
  | 117 => ⟨S65536x2816, .f32⟩
  | 118 => ⟨S65536x1024, .f32⟩
  | 119 => ⟨S65536x1024, .f32⟩
  | 120 => ⟨S65536x1024, .f32⟩
  | 121 => ⟨S65536x1024, .f32⟩
  | 122 => ⟨S65536x1, .f32⟩
  | 123 => ⟨S1x1024x2816, .f32⟩
  | 124 => ⟨S1024x2816, .f32⟩
  | 125 => ⟨S1x1024x2816, .f32⟩
  | 126 => ⟨S1024x2816, .f32⟩
  | 127 => ⟨S1x2816x1024, .f32⟩
  | _ => ⟨S65536x1024, .f32⟩

abbrev hbmTy0_1 (i : Nat) : BufTy := match i % 128 with
  | 0 => ⟨S2816x1024, .f32⟩
  | 1 => ⟨S65536x2816, .f32⟩
  | 2 => ⟨S65536x2816, .f32⟩
  | 3 => ⟨S65536x2816, .f32⟩
  | 4 => ⟨S_, .f32⟩
  | 5 => ⟨S65536x2816, .f32⟩
  | 6 => ⟨S65536x2816, .f32⟩
  | 7 => ⟨S_, .f32⟩
  | 8 => ⟨S65536x2816, .f32⟩
  | 9 => ⟨S65536x2816, .f32⟩
  | 10 => ⟨S65536x2816, .f32⟩
  | 11 => ⟨S65536x2816, .f32⟩
  | 12 => ⟨S65536x2816, .f32⟩
  | 13 => ⟨S65536x1024, .f32⟩
  | 14 => ⟨S65536x1024, .f32⟩
  | 15 => ⟨S65536x1024, .f32⟩
  | 16 => ⟨S65536x1024, .f32⟩
  | 17 => ⟨S65536x1, .f32⟩
  | 18 => ⟨S1x1024x2816, .f32⟩
  | 19 => ⟨S1024x2816, .f32⟩
  | 20 => ⟨S1x1024x2816, .f32⟩
  | 21 => ⟨S1024x2816, .f32⟩
  | 22 => ⟨S1x2816x1024, .f32⟩
  | 23 => ⟨S2816x1024, .f32⟩
  | 24 => ⟨S65536x2816, .f32⟩
  | 25 => ⟨S65536x2816, .f32⟩
  | 26 => ⟨S65536x2816, .f32⟩
  | 27 => ⟨S_, .f32⟩
  | 28 => ⟨S65536x2816, .f32⟩
  | 29 => ⟨S65536x2816, .f32⟩
  | 30 => ⟨S_, .f32⟩
  | 31 => ⟨S65536x2816, .f32⟩
  | 32 => ⟨S65536x2816, .f32⟩
  | 33 => ⟨S65536x2816, .f32⟩
  | 34 => ⟨S65536x2816, .f32⟩
  | 35 => ⟨S65536x2816, .f32⟩
  | 36 => ⟨S65536x1024, .f32⟩
  | 37 => ⟨S65536x1024, .f32⟩
  | 38 => ⟨S65536x1024, .f32⟩
  | 39 => ⟨S65536x1024, .f32⟩
  | 40 => ⟨S65536x1, .f32⟩
  | 41 => ⟨S1x1024x2816, .f32⟩
  | 42 => ⟨S1024x2816, .f32⟩
  | 43 => ⟨S1x1024x2816, .f32⟩
  | 44 => ⟨S1024x2816, .f32⟩
  | 45 => ⟨S1x2816x1024, .f32⟩
  | 46 => ⟨S2816x1024, .f32⟩
  | 47 => ⟨S65536x2816, .f32⟩
  | 48 => ⟨S65536x2816, .f32⟩
  | 49 => ⟨S65536x2816, .f32⟩
  | 50 => ⟨S_, .f32⟩
  | 51 => ⟨S65536x2816, .f32⟩
  | 52 => ⟨S65536x2816, .f32⟩
  | 53 => ⟨S_, .f32⟩
  | 54 => ⟨S65536x2816, .f32⟩
  | 55 => ⟨S65536x2816, .f32⟩
  | 56 => ⟨S65536x2816, .f32⟩
  | 57 => ⟨S65536x2816, .f32⟩
  | 58 => ⟨S65536x2816, .f32⟩
  | 59 => ⟨S65536x1024, .f32⟩
  | 60 => ⟨S65536x1024, .f32⟩
  | 61 => ⟨S65536x1024, .f32⟩
  | 62 => ⟨S65536x1024, .f32⟩
  | 63 => ⟨S65536x1, .f32⟩
  | 64 => ⟨S1x1024x2816, .f32⟩
  | 65 => ⟨S1024x2816, .f32⟩
  | 66 => ⟨S1x1024x2816, .f32⟩
  | 67 => ⟨S1024x2816, .f32⟩
  | 68 => ⟨S1x2816x1024, .f32⟩
  | 69 => ⟨S2816x1024, .f32⟩
  | 70 => ⟨S65536x2816, .f32⟩
  | 71 => ⟨S65536x2816, .f32⟩
  | 72 => ⟨S65536x2816, .f32⟩
  | 73 => ⟨S_, .f32⟩
  | 74 => ⟨S65536x2816, .f32⟩
  | 75 => ⟨S65536x2816, .f32⟩
  | 76 => ⟨S_, .f32⟩
  | 77 => ⟨S65536x2816, .f32⟩
  | 78 => ⟨S65536x2816, .f32⟩
  | 79 => ⟨S65536x2816, .f32⟩
  | 80 => ⟨S65536x2816, .f32⟩
  | 81 => ⟨S65536x2816, .f32⟩
  | 82 => ⟨S65536x1024, .f32⟩
  | 83 => ⟨S65536x1024, .f32⟩
  | 84 => ⟨S65536x1024, .f32⟩
  | 85 => ⟨S65536x1024, .f32⟩
  | 86 => ⟨S65536x1, .f32⟩
  | 87 => ⟨S1x1024x2816, .f32⟩
  | 88 => ⟨S1024x2816, .f32⟩
  | 89 => ⟨S1x1024x2816, .f32⟩
  | 90 => ⟨S1024x2816, .f32⟩
  | 91 => ⟨S1x2816x1024, .f32⟩
  | 92 => ⟨S2816x1024, .f32⟩
  | 93 => ⟨S65536x2816, .f32⟩
  | 94 => ⟨S65536x2816, .f32⟩
  | 95 => ⟨S65536x2816, .f32⟩
  | 96 => ⟨S_, .f32⟩
  | 97 => ⟨S65536x2816, .f32⟩
  | 98 => ⟨S65536x2816, .f32⟩
  | 99 => ⟨S_, .f32⟩
  | 100 => ⟨S65536x2816, .f32⟩
  | 101 => ⟨S65536x2816, .f32⟩
  | 102 => ⟨S65536x2816, .f32⟩
  | 103 => ⟨S65536x2816, .f32⟩
  | 104 => ⟨S65536x2816, .f32⟩
  | 105 => ⟨S65536x1024, .f32⟩
  | 106 => ⟨S65536x1024, .f32⟩
  | 107 => ⟨S65536x1024, .f32⟩
  | 108 => ⟨S65536x1024, .f32⟩
  | 109 => ⟨S65536x1024, .f32⟩
  | 110 => ⟨S65536x1024, .f32⟩
  | 111 => ⟨S_, .f32⟩
  | 112 => ⟨S65536, .f32⟩
  | 113 => ⟨S65536x1, .f32⟩
  | 114 => ⟨S_, .f32⟩
  | 115 => ⟨S65536x1, .f32⟩
  | 116 => ⟨S65536x1, .f32⟩
  | 117 => ⟨S_, .f32⟩
  | 118 => ⟨S65536x1, .f32⟩
  | 119 => ⟨S65536x1, .f32⟩
  | 120 => ⟨S65536x1, .f32⟩
  | 121 => ⟨S65536x1024, .f32⟩
  | 122 => ⟨S65536x1024, .f32⟩
  | 123 => ⟨S1x1024, .f32⟩
  | 124 => ⟨S65536x1024, .f32⟩
  | 125 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_cst_2 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call3_v0 : Ref sig .tc := ⟨.hbm, 107, rfl⟩
abbrev main_call3_v1 : Ref sig .tc := ⟨.hbm, 108, rfl⟩
abbrev main_call3_cst : Ref sig .tc := ⟨.hbm, 109, rfl⟩
abbrev main_call3_v2 : Ref sig .tc := ⟨.hbm, 110, rfl⟩
abbrev main_call3_v3 : Ref sig .tc := ⟨.hbm, 111, rfl⟩
abbrev main_call3_cst_0 : Ref sig .tc := ⟨.hbm, 112, rfl⟩
abbrev main_call3_v4 : Ref sig .tc := ⟨.hbm, 113, rfl⟩
abbrev main_call3_v5 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_call4_v0 : Ref sig .tc := ⟨.hbm, 130, rfl⟩
abbrev main_call4_v1 : Ref sig .tc := ⟨.hbm, 131, rfl⟩
abbrev main_call4_cst : Ref sig .tc := ⟨.hbm, 132, rfl⟩
abbrev main_call4_v2 : Ref sig .tc := ⟨.hbm, 133, rfl⟩
abbrev main_call4_v3 : Ref sig .tc := ⟨.hbm, 134, rfl⟩
abbrev main_call4_cst_0 : Ref sig .tc := ⟨.hbm, 135, rfl⟩
abbrev main_call4_v4 : Ref sig .tc := ⟨.hbm, 136, rfl⟩
abbrev main_call4_v5 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_call5_v0 : Ref sig .tc := ⟨.hbm, 153, rfl⟩
abbrev main_call5_v1 : Ref sig .tc := ⟨.hbm, 154, rfl⟩
abbrev main_call5_cst : Ref sig .tc := ⟨.hbm, 155, rfl⟩
abbrev main_call5_v2 : Ref sig .tc := ⟨.hbm, 156, rfl⟩
abbrev main_call5_v3 : Ref sig .tc := ⟨.hbm, 157, rfl⟩
abbrev main_call5_cst_0 : Ref sig .tc := ⟨.hbm, 158, rfl⟩
abbrev main_call5_v4 : Ref sig .tc := ⟨.hbm, 159, rfl⟩
abbrev main_call5_v5 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_call6_v0 : Ref sig .tc := ⟨.hbm, 176, rfl⟩
abbrev main_call6_v1 : Ref sig .tc := ⟨.hbm, 177, rfl⟩
abbrev main_call6_cst : Ref sig .tc := ⟨.hbm, 178, rfl⟩
abbrev main_call6_v2 : Ref sig .tc := ⟨.hbm, 179, rfl⟩
abbrev main_call6_v3 : Ref sig .tc := ⟨.hbm, 180, rfl⟩
abbrev main_call6_cst_0 : Ref sig .tc := ⟨.hbm, 181, rfl⟩
abbrev main_call6_v4 : Ref sig .tc := ⟨.hbm, 182, rfl⟩
abbrev main_call6_v5 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_call7_v0 : Ref sig .tc := ⟨.hbm, 199, rfl⟩
abbrev main_call7_v1 : Ref sig .tc := ⟨.hbm, 200, rfl⟩
abbrev main_call7_cst : Ref sig .tc := ⟨.hbm, 201, rfl⟩
abbrev main_call7_v2 : Ref sig .tc := ⟨.hbm, 202, rfl⟩
abbrev main_call7_v3 : Ref sig .tc := ⟨.hbm, 203, rfl⟩
abbrev main_call7_cst_0 : Ref sig .tc := ⟨.hbm, 204, rfl⟩
abbrev main_call7_v4 : Ref sig .tc := ⟨.hbm, 205, rfl⟩
abbrev main_call7_v5 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_call8_v0 : Ref sig .tc := ⟨.hbm, 222, rfl⟩
abbrev main_call8_v1 : Ref sig .tc := ⟨.hbm, 223, rfl⟩
abbrev main_call8_cst : Ref sig .tc := ⟨.hbm, 224, rfl⟩
abbrev main_call8_v2 : Ref sig .tc := ⟨.hbm, 225, rfl⟩
abbrev main_call8_v3 : Ref sig .tc := ⟨.hbm, 226, rfl⟩
abbrev main_call8_cst_0 : Ref sig .tc := ⟨.hbm, 227, rfl⟩
abbrev main_call8_v4 : Ref sig .tc := ⟨.hbm, 228, rfl⟩
abbrev main_call8_v5 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_cst_7 : Ref sig .tc := ⟨.hbm, 239, rfl⟩
abbrev main_v153 : Ref sig .tc := ⟨.hbm, 240, rfl⟩
abbrev main_v154 : Ref sig .tc := ⟨.hbm, 241, rfl⟩
abbrev main_cst_8 : Ref sig .tc := ⟨.hbm, 242, rfl⟩
abbrev main_v155 : Ref sig .tc := ⟨.hbm, 243, rfl⟩
abbrev main_v156 : Ref sig .tc := ⟨.hbm, 244, rfl⟩
abbrev main_cst_9 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩

abbrev nD : Nat := 1
abbrev τ : Topo := Topo.v7x

variable {F : FTy → Type} [FloatOps F]
-- ==== Proof.CrossPure.lean ====
module

public import proofs.«01_k».proof.Proof.Gen.CrossIdeal.Skeleton
public import Idealize.ShloMosaic.Lib.Pointwise

@[expose] public section

set_option maxRecDepth 16384

noncomputable section

namespace Cert.CrossIdeal.Pure

open Cert.CrossIdeal Cert.CrossIdeal.Gen Idealize.ShloMosaic Idealize.ShloMosaic.TcCoe Idealize.SL.Sem

/-- The lane's head, as the body computes it by a floored integer quotient: lane `c` belongs to head `c / 64`. -/
theorem head7 (r : Fin 512) (c : Fin 256) :
    k0_pay7 k0_pay4 k0_pay5 k0_pay6 (ix2 r c : S512x256.Idx) = BitVec.ofNat 32 (c.val / 64) := by
  pointwise [k0_pay7, k0_pay4, k0_pay5, k0_pay6]
  revert c
  decide +kernel

/-- Row-softmax weight `k` of the scores `s`. -/
def soft (s : Fin 256 → EReal) (k : Fin 256) : EReal :=
  Ideal.div (Ideal.exp (s k - Finset.univ.fold max (Ideal.ofBits .f32 0xFF800000#32) s))
    (∑ l, Ideal.exp (s l - Finset.univ.fold max (Ideal.ofBits .f32 0xFF800000#32) s))

/-- Lane `d` of head `h`. -/
def lane (h : Fin 4) (d : Fin 64) : Fin 256 := ⟨h.val * 64 + d.val, by omega⟩

/-- The head of lane `c`. -/
def hd (c : Fin 256) : Fin 4 := ⟨c.val / 64, by omega⟩

theorem sel_head (c : Fin 256) (h : Fin 4) (a b : EReal) :
    Scalar.select (IntOp.cmpi CmpIPredicate.eq (BitVec.ofNat 32 (c.val / 64)) (BitVec.ofNat 32 h.val)) a b
      = if hd c = h then a else b := by
  have key : ∀ (c : Fin 256) (h : Fin 4), IntOp.cmpi CmpIPredicate.eq (BitVec.ofNat 32 (c.val / 64)) (BitVec.ofNat 32 h.val)
      = if hd c = h then 1#1 else 0#1 := by decide +kernel
  rw [key]
  by_cases e : hd c = h
  · rw [if_pos e, if_pos e]; rfl
  · rw [if_neg e, if_neg e]; rfl

theorem sum_head (h : Fin 4) (f : Fin 256 → EReal) :
    (∑ c, if hd c = h then f c else 0) = ∑ d, f (lane h d) := by
  rw [Fin.sum_univ_tiles 4 64 rfl, Finset.sum_eq_single h]
  · refine Finset.sum_congr rfl fun d _ => ?_
    rw [if_pos]
    · rfl
    · apply Fin.ext; simp only [hd]; omega
  · intro j _ hj
    refine Finset.sum_eq_zero fun d _ => if_neg fun e => hj ?_
    rw [← e]; apply Fin.ext; simp only [hd]; omega
  · intro e; exact absurd (Finset.mem_univ _) e

theorem sel0 (c : Fin 256) (a b : EReal) : Scalar.select (IntOp.cmpi CmpIPredicate.eq (BitVec.ofNat 32 (c.val / 64)) 0#32) a b = if hd c = 0 then a else b := sel_head c 0 a b
theorem sel1 (c : Fin 256) (a b : EReal) : Scalar.select (IntOp.cmpi CmpIPredicate.eq (BitVec.ofNat 32 (c.val / 64)) 1#32) a b = if hd c = 1 then a else b := sel_head c 1 a b
theorem sel2 (c : Fin 256) (a b : EReal) : Scalar.select (IntOp.cmpi CmpIPredicate.eq (BitVec.ofNat 32 (c.val / 64)) 2#32) a b = if hd c = 2 then a else b := sel_head c 2 a b
theorem sel3 (c : Fin 256) (a b : EReal) : Scalar.select (IntOp.cmpi CmpIPredicate.eq (BitVec.ofNat 32 (c.val / 64)) 3#32) a b = if hd c = 3 then a else b := sel_head c 3 a b

/-- The scores of a query row against the keys in head `h`. -/
def scr (q : Fin 256 → EReal) (K : Fin 256 → Fin 256 → EReal) (h : Fin 4) (l : Fin 256) : EReal :=
  ∑ d, q (lane h d) * K l (lane h d)

/-- The values at lane `c` under head `h`'s softmax. -/
def att (q : Fin 256 → EReal) (K V : Fin 256 → Fin 256 → EReal) (h : Fin 4) (c : Fin 256) : EReal :=
  ∑ k, soft (scr q K h) k * V k c

theorem pay10_apply (v21 : FVec Ideal S512x256 .f32) (v47 v49 : Vec Ideal S1x256x256 .bf16) (r : Fin 512) (c : Fin 256) :
    k0_pay10 (F := Ideal) v21 k0_pay4 k0_pay5 k0_pay6 v47 v49 (ix2 r c : S512x256.Idx)
      = if hd c = 0 then att (fun c => v21 (ix2 r c)) (fun l c => v47 (ix3 0 l c)) (fun l c => v49 (ix3 0 l c)) 0 c else 0 := by
  pointwise [k0_pay10, k0_pay8, k0_pay9, head7]
  simp only [sel0, ite_mul, zero_mul, sum_head]
  rfl

theorem pay11_apply (v21 : FVec Ideal S512x256 .f32) (v47 : Vec Ideal S1x256x256 .bf16) (r : Fin 512) (l : Fin 256) :
    k0_pay11 (F := Ideal) v21 k0_pay4 k0_pay5 k0_pay6 v47 (ix2 r l : S512x256.Idx)
      = scr (fun c => v21 (ix2 r c)) (fun l c => v47 (ix3 0 l c)) 1 l := by
  pointwise [k0_pay11, k0_pay8, head7]
  simp only [sel1, ite_mul, zero_mul, sum_head]
  rfl

theorem pay12_apply (v21 : FVec Ideal S512x256 .f32) (v47 : Vec Ideal S1x256x256 .bf16) (r : Fin 512) (l : Fin 256) :
    k0_pay12 (F := Ideal) v21 k0_pay4 k0_pay5 k0_pay6 v47 (ix2 r l : S512x256.Idx)
      = Finset.univ.fold max (Ideal.ofBits .f32 0xFF800000#32) (scr (fun c => v21 (ix2 r c)) (fun l c => v47 (ix3 0 l c)) 1) := by
  pointwise [k0_pay12, pay11_apply]

theorem pay13_apply (v21 v71 : FVec Ideal S512x256 .f32) (v47 v49 : Vec Ideal S1x256x256 .bf16) (r : Fin 512) (c : Fin 256) :
    k0_pay13 (F := Ideal) v21 (k0_pay7 k0_pay4 k0_pay5 k0_pay6) (k0_pay8 (F := Ideal) v47) (k0_pay9 (F := Ideal) v49) v71
        (k0_pay11 (F := Ideal) v21 k0_pay4 k0_pay5 k0_pay6 v47) (k0_pay12 (F := Ideal) v21 k0_pay4 k0_pay5 k0_pay6 v47) (ix2 r c : S512x256.Idx)
      = if hd c = 2 then att (fun c => v21 (ix2 r c)) (fun l c => v47 (ix3 0 l c)) (fun l c => v49 (ix3 0 l c)) 2 c
        else if hd c = 1 then att (fun c => v21 (ix2 r c)) (fun l c => v47 (ix3 0 l c)) (fun l c => v49 (ix3 0 l c)) 1 c
        else v71 (ix2 r c) := by
  pointwise [k0_pay13, k0_pay8, k0_pay9, head7, pay11_apply, pay12_apply]
  simp only [sel1, sel2, ite_mul, zero_mul, sum_head]
  rfl

theorem pay14_apply (v21 : FVec Ideal S512x256 .f32) (v47 : Vec Ideal S1x256x256 .bf16) (r : Fin 512) (l : Fin 256) :
    k0_pay14 (F := Ideal) v21 (k0_pay7 k0_pay4 k0_pay5 k0_pay6) (k0_pay8 (F := Ideal) v47) (ix2 r l : S512x256.Idx)
      = Ideal.exp (scr (fun c => v21 (ix2 r c)) (fun l c => v47 (ix3 0 l c)) 3 l
          - Finset.univ.fold max (Ideal.ofBits .f32 0xFF800000#32) (scr (fun c => v21 (ix2 r c)) (fun l c => v47 (ix3 0 l c)) 3)) := by
  pointwise [k0_pay14, k0_pay8, head7]
  simp only [sel3, ite_mul, zero_mul, sum_head]
  rfl

theorem pay15_apply (v21 : FVec Ideal S512x256 .f32) (v47 : Vec Ideal S1x256x256 .bf16) (r : Fin 512) (l : Fin 256) :
    k0_pay15 (F := Ideal) v21 (k0_pay7 k0_pay4 k0_pay5 k0_pay6) (k0_pay8 (F := Ideal) v47) (ix2 r l : S512x256.Idx)
      = ∑ l, Ideal.exp (scr (fun c => v21 (ix2 r c)) (fun l c => v47 (ix3 0 l c)) 3 l
          - Finset.univ.fold max (Ideal.ofBits .f32 0xFF800000#32) (scr (fun c => v21 (ix2 r c)) (fun l c => v47 (ix3 0 l c)) 3)) := by
  pointwise [k0_pay15, pay14_apply]

/-- The normalized row times the query projection, at lane `c`. -/
def query (x g : Fin 1024 → EReal) (wq : Fin 1024 → Fin 256 → EReal) (c : Fin 256) : EReal :=
  (∑ k, x k * Ideal.rsqrt (Ideal.div (∑ j, x j * x j) (Ideal.ofBits .f32 0x44800000#32) + Ideal.ofBits .f32 0x358637BD#32) * g k
    * wq k c) * Ideal.ofBits .f32 0x3E000000#32

/-- One row of cross attention at output column `j`: the row plus its attended values times the output projection. -/
def crossRow (x g : Fin 1024 → EReal) (wq : Fin 1024 → Fin 256 → EReal) (K V : Fin 256 → Fin 256 → EReal)
    (wo : Fin 256 → Fin 1024 → EReal) (j : Fin 1024) : EReal :=
  x j + ∑ c, (∑ k, soft (fun l => ∑ d, query x g wq (lane (hd c) d) * K l (lane (hd c) d)) k * V k c) * wo c j

theorem query_apply (v0 : Vec Ideal S1x512x1024 .f32) (v2 : Vec Ideal S1x1024 .f32) (v17 : Vec Ideal S1024x256 .bf16)
    (r : Fin 512) (c : Fin 256) :
    k0_pay3 (F := Ideal) v0 v2 v17 (ix2 r c : S512x256.Idx)
      = query (fun k => v0 (ix3 0 r k)) (fun k => v2 (ix2 0 k)) (fun k c => v17 (ix2 k c)) c := by
  pointwise [k0_pay3, k0_pay2, query]

theorem heads (c : Fin 256) (f : Fin 4 → EReal) :
    (if hd c = 3 then f 3 else if hd c = 2 then f 2 else if hd c = 1 then f 1 else if hd c = 0 then f 0 else 0) = f (hd c) := by
  generalize hd c = h
  have hc : h = 0 ∨ h = 1 ∨ h = 2 ∨ h = 3 := by revert h; decide
  rcases hc with h | h | h | h <;> rw [h] <;> simp (config := {decide := true}) only [if_true, if_false]

/-- The last head's part of what the body stores, over what the heads before it left. -/
theorem last_apply (v1 : FVec Ideal S512x1024 .f32) (v21 v111 : FVec Ideal S512x256 .f32) (v47 v49 : Vec Ideal S1x256x256 .bf16) (v133 : Vec Ideal S256x1024 .bf16)
    (u : Fin 1) (r : Fin 512) (j : Fin 1024) :
    k0_pay1 (F := Ideal) v1 (k0_pay7 k0_pay4 k0_pay5 k0_pay6) (k0_pay9 (F := Ideal) v49) v111
        (k0_pay14 (F := Ideal) v21 (k0_pay7 k0_pay4 k0_pay5 k0_pay6) (k0_pay8 (F := Ideal) v47))
        (k0_pay15 (F := Ideal) v21 (k0_pay7 k0_pay4 k0_pay5 k0_pay6) (k0_pay8 (F := Ideal) v47)) v133 (ix3 u r j : S1x512x1024.Idx)
      = v1 (ix2 r j) + ∑ c, (if hd c = 3 then att (fun c => v21 (ix2 r c)) (fun l c => v47 (ix3 0 l c)) (fun l c => v49 (ix3 0 l c)) 3 c
          else v111 (ix2 r c)) * v133 (ix2 c j) := by
  pointwise [k0_pay1, k0_pay9, head7, pay14_apply, pay15_apply]
  simp only [sel3]
  rfl

/-- What the body stores for the queries `v21`. -/
theorem row_apply (v1 : FVec Ideal S512x1024 .f32) (v21 : FVec Ideal S512x256 .f32) (v47 v49 : Vec Ideal S1x256x256 .bf16) (v133 : Vec Ideal S256x1024 .bf16)
    (u : Fin 1) (r : Fin 512) (j : Fin 1024) :
    k0_pay1 (F := Ideal) v1 (k0_pay7 k0_pay4 k0_pay5 k0_pay6) (k0_pay9 (F := Ideal) v49)
        (k0_pay13 (F := Ideal) v21 (k0_pay7 k0_pay4 k0_pay5 k0_pay6) (k0_pay8 (F := Ideal) v47) (k0_pay9 (F := Ideal) v49)
          (k0_pay10 (F := Ideal) v21 k0_pay4 k0_pay5 k0_pay6 v47 v49) (k0_pay11 (F := Ideal) v21 k0_pay4 k0_pay5 k0_pay6 v47)
          (k0_pay12 (F := Ideal) v21 k0_pay4 k0_pay5 k0_pay6 v47))
        (k0_pay14 (F := Ideal) v21 (k0_pay7 k0_pay4 k0_pay5 k0_pay6) (k0_pay8 (F := Ideal) v47))
        (k0_pay15 (F := Ideal) v21 (k0_pay7 k0_pay4 k0_pay5 k0_pay6) (k0_pay8 (F := Ideal) v47)) v133 (ix3 u r j : S1x512x1024.Idx)
      = v1 (ix2 r j) + ∑ c, att (fun c => v21 (ix2 r c)) (fun l c => v47 (ix3 0 l c)) (fun l c => v49 (ix3 0 l c)) (hd c) c * v133 (ix2 c j) := by
  rw [last_apply]
  refine congrArg _ (Finset.sum_congr rfl fun c _ => congrArg (· * _) ?_)
  rw [pay13_apply, pay10_apply]
  exact heads c (fun h => att (fun c => v21 (ix2 r c)) (fun l c => v47 (ix3 0 l c)) (fun l c => v49 (ix3 0 l c)) h c)

/-- What the body stores, row by row. -/
theorem store_apply (v0 : Vec Ideal S1x512x1024 .f32) (v2 : Vec Ideal S1x1024 .f32) (v17 : Vec Ideal S1024x256 .bf16)
    (v47 v49 : Vec Ideal S1x256x256 .bf16) (v133 : Vec Ideal S256x1024 .bf16) (u : Fin 1) (r : Fin 512) (j : Fin 1024) :
    k0_pay1 (F := Ideal) (k0_pay2 (F := Ideal) v0) (k0_pay7 k0_pay4 k0_pay5 k0_pay6) (k0_pay9 (F := Ideal) v49)
        (k0_pay13 (F := Ideal) (k0_pay3 (F := Ideal) v0 v2 v17) (k0_pay7 k0_pay4 k0_pay5 k0_pay6) (k0_pay8 (F := Ideal) v47) (k0_pay9 (F := Ideal) v49)
          (k0_pay10 (F := Ideal) (k0_pay3 (F := Ideal) v0 v2 v17) k0_pay4 k0_pay5 k0_pay6 v47 v49) (k0_pay11 (F := Ideal) (k0_pay3 (F := Ideal) v0 v2 v17) k0_pay4 k0_pay5 k0_pay6 v47)
          (k0_pay12 (F := Ideal) (k0_pay3 (F := Ideal) v0 v2 v17) k0_pay4 k0_pay5 k0_pay6 v47))
        (k0_pay14 (F := Ideal) (k0_pay3 (F := Ideal) v0 v2 v17) (k0_pay7 k0_pay4 k0_pay5 k0_pay6) (k0_pay8 (F := Ideal) v47))
        (k0_pay15 (F := Ideal) (k0_pay3 (F := Ideal) v0 v2 v17) (k0_pay7 k0_pay4 k0_pay5 k0_pay6) (k0_pay8 (F := Ideal) v47)) v133 (ix3 u r j : S1x512x1024.Idx)
      = crossRow (fun k => v0 (ix3 0 r k)) (fun k => v2 (ix2 0 k)) (fun k c => v17 (ix2 k c))
          (fun l c => v47 (ix3 0 l c)) (fun l c => v49 (ix3 0 l c)) (fun c j => v133 (ix2 c j)) j := by
  rw [row_apply]
  have e : (fun c => k0_pay3 (F := Ideal) v0 v2 v17 (ix2 r c)) = query (fun k => v0 (ix3 0 r k)) (fun k => v2 (ix2 0 k)) (fun k c => v17 (ix2 k c)) :=
    funext fun c => query_apply v0 v2 v17 r c
  have e2 : k0_pay2 (F := Ideal) v0 (ix2 r j) = v0 (ix3 0 r j) := by pointwise [k0_pay2]
  rw [e, e2]
  rfl

end Cert.CrossIdeal.Pure

end
-- ==== Proof.CrossRow.lean ====
module

public import proofs.«01_k».proof.Proof.CrossPure
public import proofs.«01_k».proof.Proof.Gen.CrossRefIdeal.Read

@[expose] public section

set_option maxRecDepth 16384

noncomputable section

namespace Cert.CrossRefIdeal.Row

open Cert.CrossRefIdeal Idealize.ShloMosaic Idealize.ShloMosaic.TcCoe Idealize.SL.Sem
open Cert.CrossIdeal.Pure (soft lane hd query crossRow)

theorem max_fold (b : EReal) (f : Fin 256 → EReal) : max b (Finset.univ.fold max b f) = Finset.univ.fold max b f :=
  max_eq_right ((Finset.le_fold_max b).2 (Or.inl le_rfl))

theorem ref_query (x0 : FVec Ideal S32x2048x1024 .f32) (x1 : FVec Ideal S1024 .f32) (x2 : FVec Ideal S1024x256 .f32)
    (b : Fin 32) (s : Fin 2048) (h : Fin 4) (d : Fin 64) :
    Read.val_main_v16 (F := Ideal) x0 x1 x2 (ix4 b s h d)
      = query (fun k => x0 (ix3 b s k)) (fun k => x1 (ix1 k)) (fun k c => x2 (ix2 k c)) (lane h d) := by
  pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v13, Read.val_main_v14, Read.val_main_v15, Read.val_main_v16,Read.val_main_cst, Read.val_main_cst_0, Read.val_main_cst_1, Read.val_main_cst_2, query, lane]

/-- The scores of one query row against key `l`, head by head. -/
theorem ref_score (x0 : FVec Ideal S32x2048x1024 .f32) (x1 : FVec Ideal S1024 .f32) (x2 : FVec Ideal S1024x256 .f32)
    (x3 : FVec Ideal S32x256x1024 .bf16) (b : Fin 32) (h : Fin 4) (s : Fin 2048) (l : Fin 256) :
    Read.val_main_v22 (F := Ideal) x0 x1 x2 x3 (ix4 b h s l)
      = ∑ d, query (fun k => x0 (ix3 b s k)) (fun k => x1 (ix1 k)) (fun k c => x2 (ix2 k c)) (lane h d)
          * x3 (ix3 b l ⟨(lane h d).val, by omega⟩) := by
  pointwise [Read.val_main_v22, Read.val_main_v19, Read.val_main_v18, Read.val_main_v17, ref_query]
  rfl

theorem ref_max (x0 : FVec Ideal S32x2048x1024 .f32) (x1 : FVec Ideal S1024 .f32) (x2 : FVec Ideal S1024x256 .f32)
    (x3 : FVec Ideal S32x256x1024 .bf16) (b : Fin 32) (h : Fin 4) (s : Fin 2048) :
    Read.val_main_v23 (F := Ideal) x0 x1 x2 x3 (ix3 b h s)
      = Finset.univ.fold max (Ideal.ofBits .f32 0xFF800000#32) (fun l : Fin 256 => Read.val_main_v22 (F := Ideal) x0 x1 x2 x3 (ix4 b h s l)) := by
  pointwise [Read.val_main_v23, Read.val_main_cst_3]

theorem ref_max2 (x0 : FVec Ideal S32x2048x1024 .f32) (x1 : FVec Ideal S1024 .f32) (x2 : FVec Ideal S1024x256 .f32)
    (x3 : FVec Ideal S32x256x1024 .bf16) (b : Fin 32) (h : Fin 4) (s : Fin 2048) :
    Read.val_main_v25 (F := Ideal) x0 x1 x2 x3 (ix3 b h s)
      = Finset.univ.fold max (Ideal.ofBits .f32 0xFF800000#32) (fun l : Fin 256 => Read.val_main_v22 (F := Ideal) x0 x1 x2 x3 (ix4 b h s l)) := by
  rw [Read.val_main_v25_apply, Read.val_main_v24_apply, Read.val_main_cst_4_apply, ref_max]
  exact max_fold _ _

theorem ref_exp (x0 : FVec Ideal S32x2048x1024 .f32) (x1 : FVec Ideal S1024 .f32) (x2 : FVec Ideal S1024x256 .f32)
    (x3 : FVec Ideal S32x256x1024 .bf16) (b : Fin 32) (h : Fin 4) (s : Fin 2048) (l : Fin 256) :
    Read.val_main_v29 (F := Ideal) x0 x1 x2 x3 (ix4 b h s l)
      = Ideal.exp (Read.val_main_v22 (F := Ideal) x0 x1 x2 x3 (ix4 b h s l)
          - Finset.univ.fold max (Ideal.ofBits .f32 0xFF800000#32) (fun l : Fin 256 => Read.val_main_v22 (F := Ideal) x0 x1 x2 x3 (ix4 b h s l))) := by
  pointwise [Read.val_main_v29, Read.val_main_v28, Read.val_main_v27, Read.val_main_v26, ref_max2]

theorem ref_soft (x0 : FVec Ideal S32x2048x1024 .f32) (x1 : FVec Ideal S1024 .f32) (x2 : FVec Ideal S1024x256 .f32)
    (x3 : FVec Ideal S32x256x1024 .bf16) (b : Fin 32) (h : Fin 4) (s : Fin 2048) (l : Fin 256) :
    Read.val_main_v33 (F := Ideal) x0 x1 x2 x3 (ix4 b h s l)
      = soft (fun l => Read.val_main_v22 (F := Ideal) x0 x1 x2 x3 (ix4 b h s l)) l := by
  pointwise [Read.val_main_v33, Read.val_main_v32, Read.val_main_v31, Read.val_main_v30, Read.val_main_cst_5, ref_exp, soft]

theorem ref_attn (x0 : FVec Ideal S32x2048x1024 .f32) (x1 : FVec Ideal S1024 .f32) (x2 : FVec Ideal S1024x256 .f32)
    (x3 : FVec Ideal S32x256x1024 .bf16) (b : Fin 32) (s : Fin 2048) (c : Fin 256) :
    Read.val_main_v36 (F := Ideal) x0 x1 x2 x3 (ix3 b s c)
      = ∑ k, soft (fun l => Read.val_main_v22 (F := Ideal) x0 x1 x2 x3 (ix4 b (hd c) s l)) k * x3 (ix3 b k ⟨256 + c.val, by omega⟩) := by
  pointwise [Read.val_main_v36, Read.val_main_v35, Read.val_main_v34, Read.val_main_v21, Read.val_main_v20, Read.val_main_v17, ref_soft]
  exact Finset.sum_congr rfl fun k _ => mul_comm _ _

/-- The reference, row by row. -/
theorem ref_apply (x0 : FVec Ideal S32x2048x1024 .f32) (x1 : FVec Ideal S1024 .f32) (x2 : FVec Ideal S1024x256 .f32)
    (x3 : FVec Ideal S32x256x1024 .bf16) (x4 : FVec Ideal S256x1024 .f32) (b : Fin 32) (s : Fin 2048) (j : Fin 1024) :
    Read.val_main_v38 (F := Ideal) x0 x1 x2 x3 x4 (ix3 b s j)
      = crossRow (fun k => x0 (ix3 b s k)) (fun k => x1 (ix1 k)) (fun k c => x2 (ix2 k c))
          (fun l c => x3 (ix3 b l ⟨c.val, by omega⟩)) (fun l c => x3 (ix3 b l ⟨256 + c.val, by omega⟩)) (fun c j => x4 (ix2 c j)) j := by
  pointwise [Read.val_main_v37, Read.val_main_v38, ref_attn, ref_score, crossRow]

end Cert.CrossRefIdeal.Row

end
-- ==== Proof.CrossValue.lean ====
module

public import proofs.«01_k».proof.Proof.CrossRow
public import proofs.«01_k».proof.Proof.Gen.CrossIdeal.Value
public import Idealize.ShloMosaic.Lib.Pipeline.ValueKit
public import Idealize.ShloMosaic.Lib.Claim

@[expose] public section

set_option maxRecDepth 16384

noncomputable section

namespace Cert.CrossIdeal.Final

open Cert.CrossIdeal Cert.CrossIdeal.Gen Idealize.ShloMosaic Idealize.ShloMosaic.TcCoe Idealize.SL.Sem
open Idealize.ShloMosaic.Pipeline (Dat)
open Cert.CrossIdeal.Pure

variable (m : (ℓ : Loc nD τ sig) → Buf (Elt Ideal) ℓ)

theorem idx : ∀ t : Fin cfg0.N, win0_0.index t = ![(grid0.coords t 0).val, (grid0.coords t 1).val, 0] ∧ win0_1.index t = ![0, 0]
    ∧ win0_2.index t = ![0, 0] ∧ win0_3.index t = ![(grid0.coords t 0).val, 0, 0] ∧ win0_4.index t = ![(grid0.coords t 0).val, 0, 1]
    ∧ win0_5.index t = ![0, 0] ∧ win0_6.index t = ![(grid0.coords t 0).val, (grid0.coords t 1).val, 0] :=
  (by decide +kernel : ∀ t : Fin grid0.N, _)

theorem row_congr {x x' g g' : Fin 1024 → EReal} {wq wq' : Fin 1024 → Fin 256 → EReal} {K K' V V' : Fin 256 → Fin 256 → EReal}
    {wo wo' : Fin 256 → Fin 1024 → EReal} {j j' : Fin 1024} (hx : ∀ k, x k = x' k) (hg : ∀ k, g k = g' k)
    (hq : ∀ k c, wq k c = wq' k c) (hK : ∀ l c, K l c = K' l c) (hV : ∀ l c, V l c = V' l c) (ho : ∀ c j, wo c j = wo' c j)
    (hj : j = j') : crossRow x g wq K V wo j = crossRow x' g' wq' K' V' wo' j' := by
  rw [funext hx, funext hg, funext fun k => funext (hq k), funext fun k => funext (hK k), funext fun k => funext (hV k),
    funext fun k => funext (ho k), hj]

abbrev REF (X0 : FVec Ideal S32x2048x1024 .f32) (X1 : FVec Ideal S1024 .f32) (X2 : FVec Ideal S1024x256 .f32)
    (X3 : FVec Ideal S32x256x1024 .bf16) (X4 : FVec Ideal S256x1024 .f32) : FVec Ideal S32x2048x1024 .f32 :=
  Cert.CrossRefIdeal.Read.val_main_v38 (F := Ideal) X0 X1 X2 X3 X4

theorem pay_ref (v0 : FVec Ideal S1x512x1024 .f32) (v2 : FVec Ideal S1x1024 .f32) (v17 : FVec Ideal S1024x256 .bf16)
    (v90 v103 : FVec Ideal S1x256x256 .bf16) (v124 : FVec Ideal S256x1024 .bf16)
    (X0 : FVec Ideal S32x2048x1024 .f32) (X1 : FVec Ideal S1024 .f32) (X2 : FVec Ideal S1024x256 .f32)
    (X3 : FVec Ideal S32x256x1024 .bf16) (X4 : FVec Ideal S256x1024 .f32) (y : S1x512x1024.Idx) (z : S32x2048x1024.Idx)
    (hx : ∀ k : Fin 1024, v0 (ix3 0 (y 1) k) = X0 (ix3 (z 0) (z 1) k)) (hg : ∀ k : Fin 1024, v2 (ix2 0 k) = X1 (ix1 k))
    (hq : ∀ (k : Fin 1024) (c : Fin 256), v17 (ix2 k c) = X2 (ix2 k c))
    (hK : ∀ (l c : Fin 256), v90 (ix3 0 l c) = X3 (ix3 (z 0) l ⟨c.val, by omega⟩))
    (hV : ∀ (l c : Fin 256), v103 (ix3 0 l c) = X3 (ix3 (z 0) l ⟨256 + c.val, by omega⟩))
    (ho : ∀ (c : Fin 256) (j : Fin 1024), v124 (ix2 c j) = X4 (ix2 c j)) (hj : (y 2).val = (z 2).val) :
    k0_pay1 (F := Ideal) (k0_pay2 (F := Ideal) v0) (k0_pay7 k0_pay4 k0_pay5 k0_pay6) (k0_pay9 (F := Ideal) v103)
        (k0_pay13 (F := Ideal) (k0_pay3 (F := Ideal) v0 v2 v17) (k0_pay7 k0_pay4 k0_pay5 k0_pay6) (k0_pay8 (F := Ideal) v90) (k0_pay9 (F := Ideal) v103)
          (k0_pay10 (F := Ideal) (k0_pay3 (F := Ideal) v0 v2 v17) k0_pay4 k0_pay5 k0_pay6 v90 v103) (k0_pay11 (F := Ideal) (k0_pay3 (F := Ideal) v0 v2 v17) k0_pay4 k0_pay5 k0_pay6 v90)
          (k0_pay12 (F := Ideal) (k0_pay3 (F := Ideal) v0 v2 v17) k0_pay4 k0_pay5 k0_pay6 v90))
        (k0_pay14 (F := Ideal) (k0_pay3 (F := Ideal) v0 v2 v17) (k0_pay7 k0_pay4 k0_pay5 k0_pay6) (k0_pay8 (F := Ideal) v90))
        (k0_pay15 (F := Ideal) (k0_pay3 (F := Ideal) v0 v2 v17) (k0_pay7 k0_pay4 k0_pay5 k0_pay6) (k0_pay8 (F := Ideal) v90)) v124 y
      = REF X0 X1 X2 X3 X4 z := by
  idx_vars y
  idx_vars z
  refine (store_apply _ _ _ _ _ _ y0 y1 y2).trans (Eq.trans (row_congr ?_ ?_ ?_ ?_ ?_ ?_ ?_) (Cert.CrossRefIdeal.Row.ref_apply _ _ _ _ _ _ _ _).symm)
  · exact hx
  · exact hg
  · exact hq
  · exact hK
  · exact hV
  · exact ho
  · exact Fin.ext hj

theorem blk0 (c : Dev nD) (t : Fin cfg0.N) (y : S1x512x1024.Idx) (k : Fin 1024) :
    iblk m c 0 t (ix3 0 (y 1) k) = (m ((c : Thread nD τ).loc main_arg0)) (ix3 (((cfg0.win 6).blk t).view.emb y 0) (((cfg0.win 6).blk t).view.emb y 1) k) := by
  blk_ext [iblk, V, idx t]

theorem blk1 (c : Dev nD) (t : Fin cfg0.N) (k : Fin 1024) :
    iblk m c 1 t (ix2 0 k) = (m ((c : Thread nD τ).loc main_arg1)) (ix1 k) := by
  blk_simp [iblk, idx t]
  entry_read
  pointwise
  blk_ext [idx t]

theorem blk2 (c : Dev nD) (t : Fin cfg0.N) (k : Fin 1024) (l : Fin 256) :
    iblk m c 2 t (ix2 k l) = (m ((c : Thread nD τ).loc main_arg2)) (ix2 k l) := by
  blk_simp [iblk, idx t]
  entry_read
  pointwise
  blk_ext [idx t]

theorem blk3 (c : Dev nD) (t : Fin cfg0.N) (y : S1x512x1024.Idx) (l k : Fin 256) :
    iblk m c 3 t (ix3 0 l k) = (m ((c : Thread nD τ).loc main_arg3)) (ix3 (((cfg0.win 6).blk t).view.emb y 0) l ⟨k.val, by omega⟩) := by
  blk_ext [iblk, V, idx t]

theorem blk4 (c : Dev nD) (t : Fin cfg0.N) (y : S1x512x1024.Idx) (l k : Fin 256) :
    iblk m c 4 t (ix3 0 l k) = (m ((c : Thread nD τ).loc main_arg3)) (ix3 (((cfg0.win 6).blk t).view.emb y 0) l ⟨256 + k.val, by omega⟩) := by
  blk_ext [iblk, V, idx t]

theorem blk5 (c : Dev nD) (t : Fin cfg0.N) (k : Fin 256) (l : Fin 1024) :
    iblk m c 5 t (ix2 k l) = (m ((c : Thread nD τ).loc main_arg4)) (ix2 k l) := by
  blk_simp [iblk, idx t]
  entry_read
  pointwise
  blk_ext [idx t]

theorem col (t : Fin cfg0.N) (y : S1x512x1024.Idx) : (y 2).val = ((((cfg0.win 6).blk t).view.emb y) 2).val := by
  blk_simp [idx t]

/-- The result array is the reference's term of the arguments. -/
theorem final (c : Dev nD) : (dats m 0 c).arrAt 6 (cfgs 0).N
    = REF (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; unfold_out out0_6; frame_out
  exact pay_ref (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2))
    (m ((c : Thread nD τ).loc main_arg3)) (m ((c : Thread nD τ).loc main_arg4)) y (((cfg0.win 6).blk t).view.emb y)
    (blk0 m c t y) (blk1 m c t) (blk2 m c t) (blk3 m c t y) (blk4 m c t y) (blk5 m c t) (col t y)

end Cert.CrossIdeal.Final

end
-- ==== Proof.CrossClaims.lean ====
module

public import proofs.«01_k».proof.Defs
public import proofs.«01_k».proof.Proof.Gen.Cross
public import proofs.«01_k».proof.Proof.Gen.Cross.Frame
public import proofs.«01_k».proof.Proof.Gen.CrossIdeal
public import proofs.«01_k».proof.Proof.Gen.CrossIdeal.Frame
public import proofs.«01_k».proof.Proof.Gen.CrossIdeal.Value
public import proofs.«01_k».proof.Proof.Gen.CrossRefIdeal
public import proofs.«01_k».proof.Proof.Gen.CrossRefIdeal.Run
public import proofs.«01_k».proof.Proof.Gen.CrossRefIdeal.Read
public import proofs.«01_k».proof.Proof.CrossValue
public import Idealize.ShloMosaic.Lib.Claim

@[expose] public section

set_option maxRecDepth 16384

noncomputable section

namespace Cert.Proof.Cross

open Idealize.ShloMosaic Idealize.ShloMosaic.TcCoe Idealize.SL.Sem

theorem frame_kernel : Cert.quiescent_Cross (hCross := Cert.Cross.Gen.facts) := fun m ρ _ => Cert.Cross.Gen.frame m ρ

theorem frame_ideal : Cert.quiescent_CrossIdeal (hCrossIdeal := Cert.CrossIdeal.Gen.facts) := fun m ρ _ => Cert.CrossIdeal.Gen.frame m ρ

theorem frame_reference : Cert.quiescent_CrossRefIdeal (hCrossRefIdeal := Cert.CrossRefIdeal.Gen.facts) := fun m ρ _ =>
  (θ_run Cert.CrossRefIdeal.defs _ _).mono (fun r h => ⟨fun c => (h c).2, sem_eq_zero_of_no_sems (by decide) r.2⟩)
    (Cert.CrossRefIdeal.Value.run (F := Ideal) m ρ)

theorem preserved : Cert.preserves_Cross_CrossIdeal := trivial

/-- The call's output array is the reference's result. -/
theorem value : Cert.algebraic_CrossIdeal_CrossRefIdeal (hCrossIdeal := Cert.CrossIdeal.Gen.facts)
    (hCrossRefIdeal := Cert.CrossRefIdeal.Gen.facts) := by
  pair_intro
  · run_from Cert.CrossIdeal.Gen.run_main m g
  · run_from Cert.CrossRefIdeal.Value.run m' g'
    refine (Cert.CrossRefIdeal.Read.val_main_v38_eq (F := Ideal) m' c).trans ?_
    have ha := hagree c
    simp only [ha]
    exact (Cert.CrossIdeal.Final.final m c).symm

end Cert.Proof.Cross

end
-- ==== Proof.Rows.lean ====
module

public import Idealize.ShloMosaic.Lib.Pointwise

@[expose] public section

set_option maxRecDepth 16384

noncomputable section

namespace Cert.Rows

open Idealize.ShloMosaic Idealize.ShloMosaic.TcCoe Idealize.SL.Sem

/-- A row scaled to unit mean square and multiplied by the gains `g`, at column `k`. -/
def nrm (x g : Fin 1024 → EReal) (k : Fin 1024) : EReal :=
  x k * Ideal.rsqrt (Ideal.div (∑ j, x j * x j) (Ideal.ofBits .f32 0x44800000#32) + Ideal.ofBits .f32 0x358637BD#32) * g k

/-- The gated product of the two input projections at hidden column `c`. -/
def act (h : Fin 1024 → EReal) (wg wu : Fin 1024 → Fin 2816 → EReal) (c : Fin 2816) : EReal :=
  (∑ k, h k * wg k c) * Ideal.logistic (∑ k, h k * wg k c) * (∑ k, h k * wu k c)

/-- One row of the gated feed-forward, the residual added. -/
def ffnRow (x g : Fin 1024 → EReal) (wg wu : Fin 1024 → Fin 2816 → EReal) (wd : Fin 2816 → Fin 1024 → EReal) (j : Fin 1024) : EReal :=
  x j + ∑ c, act (nrm x g) wg wu c * wd c j

end Cert.Rows

end
-- ==== Proof.FfnRow.lean ====
module

public import proofs.«01_k».proof.Proof.Rows
public import proofs.«01_k».proof.Proof.Gen.FfnRefIdeal.Read

@[expose] public section

set_option maxRecDepth 16384

noncomputable section

namespace Cert.FfnRefIdeal.Row

open Idealize.ShloMosaic Idealize.ShloMosaic.TcCoe Idealize.SL.Sem
open Cert.FfnRefIdeal
open Cert.Rows

theorem ref_norm (x0 : FVec Ideal S65536x1024 .f32) (x1 : FVec Ideal S1024 .f32) (r : Fin 65536) (k : Fin 1024) :
    Read.val_main_v12 (F := Ideal) x0 x1 (ix2 r k) = nrm (fun k => x0 (ix2 r k)) (fun k => x1 (ix1 k)) k := by
  pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_cst, Read.val_main_cst_0, Read.val_main_cst_1, nrm]

theorem ref_sig (x0 : FVec Ideal S65536x1024 .f32) (x1 : FVec Ideal S1024 .f32) (x2 : FVec Ideal S1024x2816 .f32)
    (r : Fin 65536) (c : Fin 2816) :
    Read.val_main_call0_v5 (F := Ideal) x0 x1 x2 (ix2 r c) = Ideal.logistic (Read.val_main_v13 (F := Ideal) x0 x1 x2 (ix2 r c)) := by
  rw [Read.val_main_call0_v5_apply, Read.val_main_call0_v4_apply, Read.val_main_call0_v3_apply, Read.val_main_call0_v2_apply,
    Read.val_main_call0_v1_apply, Read.val_main_call0_v0_apply]
  generalize Read.val_main_v13 (F := Ideal) x0 x1 x2 (ix2 r c) = z
  pointwise [Read.val_main_call0_cst, Read.val_main_call0_cst_0]
  rfl

theorem ref_apply (x0 : FVec Ideal S65536x1024 .f32) (x1 : FVec Ideal S1024 .f32) (x2 x3 : FVec Ideal S1024x2816 .f32)
    (x4 : FVec Ideal S2816x1024 .f32) (r : Fin 65536) (j : Fin 1024) :
    Read.val_main_v18 (F := Ideal) x0 x1 x2 x3 x4 (ix2 r j)
      = ffnRow (fun k => x0 (ix2 r k)) (fun k => x1 (ix1 k)) (fun k c => x2 (ix2 k c)) (fun k c => x3 (ix2 k c)) (fun c j => x4 (ix2 c j)) j := by
  pointwise [Read.val_main_v13, Read.val_main_v14, Read.val_main_v15, Read.val_main_v16, Read.val_main_v17, Read.val_main_v18, ref_norm, ref_sig, ffnRow, act]

end Cert.FfnRefIdeal.Row

end
-- ==== Proof.FfnValue.lean ====
module

public import proofs.«01_k».proof.Proof.Rows
public import proofs.«01_k».proof.Proof.FfnRow
public import proofs.«01_k».proof.Proof.Gen.FfnIdeal.Value
public import Idealize.ShloMosaic.Lib.Pointwise
public import Idealize.ShloMosaic.Lib.Pipeline.ValueKit
public import Idealize.ShloMosaic.Lib.Claim

@[expose] public section

set_option maxRecDepth 16384

noncomputable section

namespace Cert.FfnIdeal.Final

open Cert.FfnIdeal Cert.FfnIdeal.Gen Idealize.ShloMosaic Idealize.ShloMosaic.TcCoe Idealize.SL.Sem
open Idealize.ShloMosaic.Pipeline (Dat)
open Cert.Rows

variable (m : (ℓ : Loc nD τ sig) → Buf (Elt Ideal) ℓ)

theorem idx : ∀ t : Fin cfg0.N, win0_0.index t = ![t.val / 11, 0] ∧ win0_1.index t = ![0, 0]
    ∧ win0_2.index t = ![0, t.val % 11] ∧ win0_3.index t = ![0, t.val % 11]
    ∧ win0_4.index t = ![t.val % 11, 0] ∧ win0_5.index t = ![t.val / 11, 0] :=
  (by decide +kernel : ∀ t : Fin grid0.N, _)

theorem lt_N (t : Fin cfg0.N) : t.val < 704 := t.isLt

/-- The token that row `p` of a grid point's block is. -/
def tok (n : ℕ) (h : n < 704) (p : Fin 1024) : Fin 65536 := ⟨n / 11 * 1024 + p.val, by omega⟩

/-- Hidden column `q` of a grid point's column tile. -/
def col (n : ℕ) (q : Fin 256) : Fin 2816 := ⟨n % 11 * 256 + q.val, by omega⟩

abbrev X0 (c : Dev nD) : FVec Ideal S65536x1024 .f32 := m ((c : Thread nD τ).loc main_arg0)
abbrev X1 (c : Dev nD) : FVec Ideal S1024 .f32 := m ((c : Thread nD τ).loc main_arg1)
abbrev X2 (c : Dev nD) : FVec Ideal S1024x2816 .f32 := m ((c : Thread nD τ).loc main_arg2)
abbrev X3 (c : Dev nD) : FVec Ideal S1024x2816 .f32 := m ((c : Thread nD τ).loc main_arg3)
abbrev X4 (c : Dev nD) : FVec Ideal S2816x1024 .f32 := m ((c : Thread nD τ).loc main_arg4)

abbrev B0 (c : Dev nD) (t : Fin cfg0.N) : FVec Ideal S1024x1024 .f32 := iblk m c 0 t
abbrev B1 (c : Dev nD) (t : Fin cfg0.N) : FVec Ideal S1x1024 .f32 := iblk m c 1 t
abbrev B2 (c : Dev nD) (t : Fin cfg0.N) : FVec Ideal S1024x256 .bf16 := iblk m c 2 t
abbrev B3 (c : Dev nD) (t : Fin cfg0.N) : FVec Ideal S1024x256 .bf16 := iblk m c 3 t
abbrev B4 (c : Dev nD) (t : Fin cfg0.N) : FVec Ideal S256x1024 .bf16 := iblk m c 4 t

theorem blk0 (c : Dev nD) (t : Fin cfg0.N) (p k : Fin 1024) : B0 m c t (ix2 p k) = X0 m c (ix2 (tok t.val (lt_N t) p) k) := by
  blk_ext [iblk, V, idx t, tok]

theorem blk1 (c : Dev nD) (t : Fin cfg0.N) (k : Fin 1024) : B1 m c t (ix2 0 k) = X1 m c (ix1 k) := by
  blk_simp [iblk, idx t]
  entry_read
  pointwise
  blk_ext [idx t]

theorem blk2 (c : Dev nD) (t : Fin cfg0.N) (k : Fin 1024) (q : Fin 256) : B2 m c t (ix2 k q) = X2 m c (ix2 k (col t.val q)) := by
  blk_simp [iblk, idx t]
  entry_read
  pointwise
  blk_ext [idx t, col]

theorem blk3 (c : Dev nD) (t : Fin cfg0.N) (k : Fin 1024) (q : Fin 256) : B3 m c t (ix2 k q) = X3 m c (ix2 k (col t.val q)) := by
  blk_simp [iblk, idx t]
  entry_read
  pointwise
  blk_ext [idx t, col]

theorem blk4 (c : Dev nD) (t : Fin cfg0.N) (q : Fin 256) (j : Fin 1024) : B4 m c t (ix2 q j) = X4 m c (ix2 (col t.val q) j) := by
  blk_simp [iblk, idx t]
  entry_read
  pointwise
  blk_ext [idx t, col]

theorem hb_apply (x : FVec Ideal S1024x1024 .f32) (g : FVec Ideal S1x1024 .f32) (p k : Fin 1024) :
    k0_pay1 (F := Ideal) x g (ix2 p k) = nrm (fun k => x (ix2 p k)) (fun k => g (ix2 0 k)) k := by
  pointwise [k0_pay1, nrm]

theorem zero_apply (p k : Fin 1024) : k0_pay2 (F := Ideal) (ix2 p k) = 0 := by
  pointwise [k0_pay2]

theorem acc_apply (hb : FVec Ideal S1024x1024 .bf16) (wg wu : FVec Ideal S1024x256 .bf16)
    (acc : FVec Ideal S1024x1024 .f32) (wd : FVec Ideal S256x1024 .bf16) (p j : Fin 1024) :
    k0_pay3 (F := Ideal) hb wg wu acc wd (ix2 p j) = acc (ix2 p j)
      + ∑ q : Fin 256, (∑ k, hb (ix2 p k) * wg (ix2 k q)) * Ideal.logistic (∑ k, hb (ix2 p k) * wg (ix2 k q)) * (∑ k, hb (ix2 p k) * wu (ix2 k q))
          * wd (ix2 q j) := by
  pointwise [k0_pay3]

theorem out_apply (x acc : FVec Ideal S1024x1024 .f32) (p j : Fin 1024) :
    k0_pay4 (F := Ideal) x acc (ix2 p j) = x (ix2 p j) + acc (ix2 p j) := by
  pointwise [k0_pay4]

theorem rd0 (X : FVec Ideal S1024x1024 .bf16) (h : (Memref.whole cc0_scratch0).IsWhole) :
    View.read (Elt Ideal) (View.whole cc0_scratch0) (h.unread X) = X :=
  Memref.IsWhole.read_unread (Val := Elt Ideal) (m := Memref.whole cc0_scratch0) h X

theorem rd1 (X : FVec Ideal S1024x1024 .f32) (h : (Memref.whole cc0_scratch1).IsWhole) :
    View.read (Elt Ideal) (View.whole cc0_scratch1) (h.unread X) = X :=
  Memref.IsWhole.read_unread (Val := Elt Ideal) (m := Memref.whole cc0_scratch1) h X

/-- The point before. -/
theorem pre_lt (t : Fin cfg0.N) : t.val - 1 < cfg0.N := Nat.lt_of_le_of_lt (Nat.sub_le _ _) t.isLt

theorem hb_A (c : Dev nD) (t : Fin cfg0.N) (h0 : t.val % 11 = 0) (y : S1024x1024.Idx) :
    (outsAt0 m c t.val t.isLt).2.1 y = k0_pay1 (F := Ideal) (B0 m c t) (B1 m c t) y := by
  rw [outsAt0_A m c t h0 (by omega)]; frame_out

theorem acc_A (c : Dev nD) (t : Fin cfg0.N) (h0 : t.val % 11 = 0) (y : S1024x1024.Idx) :
    (outsAt0 m c t.val t.isLt).2.2 y
      = k0_pay3 (F := Ideal) (k0_pay1 (F := Ideal) (B0 m c t) (B1 m c t)) (B2 m c t) (B3 m c t) (k0_pay2 (F := Ideal)) (B4 m c t) y := by
  rw [outsAt0_A m c t h0 (by omega)]; frame_out

theorem hb_N (c : Dev nD) (t : Fin cfg0.N) (h0 : ¬ t.val % 11 = 0) :
    (outsAt0 m c t.val t.isLt).2.1 = (outsAt0 m c (t.val - 1) (pre_lt t)).2.1 := by
  by_cases h1 : t.val % 11 = 10
  · rw [outsAt0_C m c t h0 h1]; dsimp only; unfold sout0_C_0; rfl
  · rw [outsAt0_B m c t h0 h1]; dsimp only; unfold sout0_B_0; rfl

theorem acc_N (c : Dev nD) (t : Fin cfg0.N) (h0 : ¬ t.val % 11 = 0) (y : S1024x1024.Idx) :
    (outsAt0 m c t.val t.isLt).2.2 y = k0_pay3 (F := Ideal) (outsAt0 m c (t.val - 1) (pre_lt t)).2.1 (B2 m c t) (B3 m c t)
      (outsAt0 m c (t.val - 1) (pre_lt t)).2.2 (B4 m c t) y := by
  by_cases h1 : t.val % 11 = 10
  · rw [outsAt0_C m c t h0 h1]; frame_out
    rw [rd0, rd1]
  · rw [outsAt0_B m c t h0 h1]; frame_out
    rw [rd0, rd1]

theorem out_C (c : Dev nD) (t : Fin cfg0.N) (h1 : t.val % 11 = 10) (y : S1024x1024.Idx) :
    (outsAt0 m c t.val t.isLt).1 y = k0_pay4 (F := Ideal) (B0 m c t) (outsAt0 m c t.val t.isLt).2.2 y := by
  rw [show (outsAt0 m c t.val t.isLt).2.2 = _ from funext (acc_N m c t (by omega))]
  rw [outsAt0_C m c t (by omega) h1]; frame_out
  rw [rd0, rd1]

/-- A token's normed row. -/
def H (c : Dev nD) (r : Fin 65536) (k : Fin 1024) : EReal := nrm (fun k => X0 m c (ix2 r k)) (fun k => X1 m c (ix1 k)) k

/-- A token's output column `j` before the residual, as a sum over hidden columns. -/
def term (c : Dev nD) (r : Fin 65536) (j : Fin 1024) (l : Fin 2816) : EReal :=
  act (H m c r) (fun k l => X2 m c (ix2 k l)) (fun k l => X3 m c (ix2 k l)) l * X4 m c (ix2 l j)

/-- The part of that sum in one tile of columns. -/
def tile (c : Dev nD) (r : Fin 65536) (j : Fin 1024) (s : ℕ) : EReal := ∑ q : Fin 256, term m c r j (col s q)

/-- What the two carried buffers hold after point `n`. -/
structure Inv (c : Dev nD) (n : ℕ) (h : n < cfg0.N) : Prop where
  hb : ∀ p k : Fin 1024, (outsAt0 m c n h).2.1 (ix2 p k) = H m c (tok n h p) k
  acc : ∀ p j : Fin 1024, (outsAt0 m c n h).2.2 (ix2 p j) = ∑ s ∈ Finset.range (n % 11 + 1), tile m c (tok n h p) j s

theorem step (c : Dev nD) (t : Fin cfg0.N) (hb : FVec Ideal S1024x1024 .bf16) (acc : FVec Ideal S1024x1024 .f32)
    (r : Fin 1024 → Fin 65536) (h1 : ∀ p k : Fin 1024, hb (ix2 p k) = H m c (r p) k) (p j : Fin 1024) :
    k0_pay3 (F := Ideal) hb (B2 m c t) (B3 m c t) acc (B4 m c t) (ix2 p j) = acc (ix2 p j) + tile m c (r p) j (t.val % 11) := by
  have hc : ∀ q, col (t.val % 11) q = col t.val q := fun q => Fin.ext (by show t.val % 11 % 11 * 256 + q.val = t.val % 11 * 256 + q.val; omega)
  rw [acc_apply]
  unfold tile term act
  simp only [h1, blk2, blk3, blk4, hc]

theorem inv_A (c : Dev nD) (t : Fin cfg0.N) (h0 : t.val % 11 = 0) : Inv m c t.val t.isLt := by
  have e0 : ∀ p : Fin 1024, (fun k => B0 m c t (ix2 p k)) = fun k => X0 m c (ix2 (tok t.val t.isLt p) k) := fun p => funext fun k => blk0 m c t p k
  have e1 : (fun k => B1 m c t (ix2 0 k)) = fun k => X1 m c (ix1 k) := funext fun k => blk1 m c t k
  have hb : ∀ p k : Fin 1024, k0_pay1 (F := Ideal) (B0 m c t) (B1 m c t) (ix2 p k) = H m c (tok t.val t.isLt p) k := by
    intro p k
    rw [hb_apply, e0, e1]
    rfl
  refine ⟨fun p k => (hb_A m c t h0 _).trans (hb p k), fun p j => (acc_A m c t h0 _).trans ?_⟩
  rw [step m c t _ _ (tok t.val t.isLt) hb p j, zero_apply, h0]
  simp

theorem inv_N (c : Dev nD) (t : Fin cfg0.N) (h0 : ¬ t.val % 11 = 0) (ih : Inv m c (t.val - 1) (pre_lt t)) : Inv m c t.val t.isLt := by
  have ht : tok (t.val - 1) (pre_lt t) = tok t.val t.isLt := by
    funext p
    exact Fin.ext (by show (t.val - 1) / 11 * 1024 + p.val = t.val / 11 * 1024 + p.val; omega)
  have hb := ih.hb
  have ac := ih.acc
  rw [ht] at hb ac
  refine ⟨fun p k => ?_, fun p j => (acc_N m c t h0 _).trans ?_⟩
  · rw [hb_N m c t h0]; exact hb p k
  · rw [step m c t _ _ (tok t.val t.isLt) hb p j, ac, Finset.sum_range_succ _ (t.val % 11)]
    have : (t.val - 1) % 11 + 1 = t.val % 11 := by omega
    rw [this]

theorem inv (c : Dev nD) : ∀ (n : ℕ) (h : n < cfg0.N), Inv m c n h := by
  intro n
  induction n with
  | zero => exact fun h => inv_A m c ⟨0, h⟩ rfl
  | succ n ih =>
    intro h
    by_cases h0 : (n + 1) % 11 = 0
    · exact inv_A m c ⟨n + 1, h⟩ h0
    · exact inv_N m c ⟨n + 1, h⟩ h0 (ih (Nat.lt_of_succ_lt h))

theorem sum_tiles (c : Dev nD) (r : Fin 65536) (j : Fin 1024) : ∑ s ∈ Finset.range 11, tile m c r j s = ∑ l, term m c r j l := by
  rw [Finset.sum_range, Fin.sum_univ_tiles 11 256 rfl]
  refine Finset.sum_congr rfl fun s _ => ?_
  unfold tile
  refine Finset.sum_congr rfl fun q _ => congrArg _ (Fin.ext ?_)
  show s.val % 11 * 256 + q.val = s.val * 256 + q.val
  omega

theorem emb5 (t : Fin cfg0.N) (p j : Fin 1024) : ((cfg0.win 5).blk t).view.emb (ix2 p j) = ix2 (tok t.val t.isLt p) j := by
  blk_ext [idx t, tok]

theorem out_ref (c : Dev nD) (t : Fin cfg0.N) (h1 : t.val % 11 = 10) (p j : Fin 1024) :
    (outsAt0 m c t.val t.isLt).1 (ix2 p j)
      = Cert.FfnRefIdeal.Read.val_main_v18 (F := Ideal) (X0 m c) (X1 m c) (X2 m c) (X3 m c) (X4 m c) (ix2 (tok t.val t.isLt p) j) := by
  refine Eq.trans ?_ (Cert.FfnRefIdeal.Row.ref_apply _ _ _ _ _ _ j).symm
  rw [out_C m c t h1, out_apply, (inv m c t.val t.isLt).acc p, h1, sum_tiles, blk0]
  rfl

/-- The array the call returns is the reference's. -/
theorem final (c : Dev nD) : (dats m 0 c).arrAt 5 (cfgs 0).N
    = Cert.FfnRefIdeal.Read.val_main_v18 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t ht y => ?_
  have h1 : t.val % 11 = 10 := by
    by_contra h
    by_cases h0 : t.val % 11 = 0
    · exact absurd ht (by rw [noFlush0_5_A t ((hcond0_0 t).mpr h0) (fun q => h ((hcond0_1 t).mp q))]; decide)
    · exact absurd ht (by rw [noFlush0_5_B t (fun q => h0 ((hcond0_0 t).mp q)) (fun q => h ((hcond0_1 t).mp q))]; decide)
  blk_simp
  rw [after0_5]
  idx_vars y
  exact (out_ref m c t h1 _ _).trans (congrArg _ (emb5 t _ _).symm)

end Cert.FfnIdeal.Final

end
-- ==== Proof.FfnClaims.lean ====
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.FfnValue
public import Idealize.ShloMosaic.Lib.Claim

@[expose] public section

set_option maxRecDepth 16384

noncomputable section

namespace Cert.Proof.Ffn

open Idealize.ShloMosaic Idealize.ShloMosaic.TcCoe Idealize.SL.Sem

theorem frame_kernel : Cert.quiescent_Ffn (hFfn := Cert.Ffn.Gen.facts) := fun m ρ _ => Cert.Ffn.Gen.frame m ρ

theorem frame_ideal : Cert.quiescent_FfnIdeal (hFfnIdeal := Cert.FfnIdeal.Gen.facts) := fun m ρ _ => Cert.FfnIdeal.Gen.frame m ρ

theorem frame_reference : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem preserved : Cert.preserves_Ffn_FfnIdeal := trivial

/-- The call's output array is the reference's result. -/
theorem value : Cert.algebraic_FfnIdeal_FfnRefIdeal (hFfnIdeal := Cert.FfnIdeal.Gen.facts)
    (hFfnRefIdeal := Cert.FfnRefIdeal.Gen.facts) := by
  pair_intro
  · run_from Cert.FfnIdeal.Gen.run_main m g
  · run_from Cert.FfnRefIdeal.Value.run m' g'
    exact (Cert.FfnRefIdeal.Read.val_main_v18_eq (F := Ideal) _ _ _ _ _).trans (Cert.FfnIdeal.Final.final m c).symm

end Cert.Proof.Ffn

end
-- ==== Proof.MergeRow.lean ====
module

public import proofs.«01_k».proof.Proof.Rows
public import proofs.«01_k».proof.Proof.Gen.MergeRefIdeal.Read

@[expose] public section

set_option maxRecDepth 16384

noncomputable section

namespace Cert.MergeRefIdeal.Row

open Idealize.ShloMosaic Idealize.ShloMosaic.TcCoe Idealize.SL.Sem
open Cert.MergeRefIdeal
open Cert.Rows

/-- One mixer's share of a row: its projected output under its gate. -/
def branch (h : Fin 1024 → EReal) (wg : Fin 1024 → Fin 1024 → EReal) (b : Fin 1024 → EReal) (o : Fin 256 → EReal)
    (wb : Fin 256 → Fin 1024 → EReal) (j : Fin 1024) : EReal :=
  Ideal.logistic (∑ k, h k * wg k j + b j) * ∑ k, o k * wb k j

/-- One row of the merge: the residual and the projected sum of the four shares. -/
def mergeRow (x h : Fin 1024 → EReal) (wg : Fin 4 → Fin 1024 → Fin 1024 → EReal) (b : Fin 4 → Fin 1024 → EReal)
    (o0 o1 o2 o3 : Fin 256 → EReal) (wb : Fin 4 → Fin 256 → Fin 1024 → EReal) (wo : Fin 1024 → Fin 1024 → EReal) (j : Fin 1024) : EReal :=
  x j + ∑ k, (branch h (wg 0) (b 0) o0 (wb 0) k + branch h (wg 1) (b 1) o1 (wb 1) k + branch h (wg 2) (b 2) o2 (wb 2) k
    + branch h (wg 3) (b 3) o3 (wb 3) k) * wo k j

theorem ref_pre0 (x1 : FVec Ideal S32x2048x1024 .bf16) (x6 : FVec Ideal S4x1024x1024 .f32) (x7 : FVec Ideal S4x1024 .f32) (b : Fin 32) (s : Fin 2048) (j : Fin 1024) :
    Read.val_main_v9 (F := Ideal) x1 x6 x7 (ix3 b s j) = ∑ k, x1 (ix3 b s k) * x6 (ix3 0 k j) + x7 (ix2 0 j) := by
  pointwise [Read.val_main_v0, Read.val_main_v2, Read.val_main_v3, Read.val_main_v4, Read.val_main_v5, Read.val_main_v6, Read.val_main_v7, Read.val_main_v8, Read.val_main_v9]

theorem ref_gate0 (x1 : FVec Ideal S32x2048x1024 .bf16) (x6 : FVec Ideal S4x1024x1024 .f32) (x7 : FVec Ideal S4x1024 .f32) (b : Fin 32) (s : Fin 2048) (j : Fin 1024) :
    Read.val_main_v15 (F := Ideal) x1 x6 x7 (ix3 b s j) = Ideal.logistic (Read.val_main_v9 (F := Ideal) x1 x6 x7 (ix3 b s j)) := by
  rw [Read.val_main_v15_apply, Read.val_main_v14_apply, Read.val_main_v13_apply, Read.val_main_v12_apply, Read.val_main_v11_apply, Read.val_main_v10_apply]
  generalize Read.val_main_v9 (F := Ideal) x1 x6 x7 (ix3 b s j) = z
  pointwise [Read.val_main_cst_0, Read.val_main_cst_1]
  rfl

theorem ref_branch0 (x1 : FVec Ideal S32x2048x1024 .bf16) (x2 : FVec Ideal S32x2048x256 .bf16) (x6 : FVec Ideal S4x1024x1024 .f32) (x7 : FVec Ideal S4x1024 .f32) (x8 : FVec Ideal S4x256x1024 .f32) (b : Fin 32) (s : Fin 2048) (j : Fin 1024) :
    Read.val_main_v20 (F := Ideal) x1 x2 x6 x7 x8 (ix3 b s j) = branch (fun k => x1 (ix3 b s k)) (fun k j => x6 (ix3 0 k j))
      (fun j => x7 (ix2 0 j)) (fun k => x2 (ix3 b s k)) (fun k j => x8 (ix3 0 k j)) j := by
  pointwise [Read.val_main_v16, Read.val_main_v17, Read.val_main_v18, Read.val_main_v19, Read.val_main_v20, ref_gate0, ref_pre0, branch]

theorem ref_pre1 (x1 : FVec Ideal S32x2048x1024 .bf16) (x6 : FVec Ideal S4x1024x1024 .f32) (x7 : FVec Ideal S4x1024 .f32) (b : Fin 32) (s : Fin 2048) (j : Fin 1024) :
    Read.val_main_v29 (F := Ideal) x1 x6 x7 (ix3 b s j) = ∑ k, x1 (ix3 b s k) * x6 (ix3 1 k j) + x7 (ix2 1 j) := by
  pointwise [Read.val_main_v0, Read.val_main_v22, Read.val_main_v23, Read.val_main_v24, Read.val_main_v25, Read.val_main_v26, Read.val_main_v27, Read.val_main_v28, Read.val_main_v29]

theorem ref_gate1 (x1 : FVec Ideal S32x2048x1024 .bf16) (x6 : FVec Ideal S4x1024x1024 .f32) (x7 : FVec Ideal S4x1024 .f32) (b : Fin 32) (s : Fin 2048) (j : Fin 1024) :
    Read.val_main_v35 (F := Ideal) x1 x6 x7 (ix3 b s j) = Ideal.logistic (Read.val_main_v29 (F := Ideal) x1 x6 x7 (ix3 b s j)) := by
  rw [Read.val_main_v35_apply, Read.val_main_v34_apply, Read.val_main_v33_apply, Read.val_main_v32_apply, Read.val_main_v31_apply, Read.val_main_v30_apply]
  generalize Read.val_main_v29 (F := Ideal) x1 x6 x7 (ix3 b s j) = z
  pointwise [Read.val_main_cst_2, Read.val_main_cst_3]
  rfl

theorem ref_branch1 (x1 : FVec Ideal S32x2048x1024 .bf16) (x3 : FVec Ideal S32x2048x256 .bf16) (x6 : FVec Ideal S4x1024x1024 .f32) (x7 : FVec Ideal S4x1024 .f32) (x8 : FVec Ideal S4x256x1024 .f32) (b : Fin 32) (s : Fin 2048) (j : Fin 1024) :
    Read.val_main_v40 (F := Ideal) x1 x3 x6 x7 x8 (ix3 b s j) = branch (fun k => x1 (ix3 b s k)) (fun k j => x6 (ix3 1 k j))
      (fun j => x7 (ix2 1 j)) (fun k => x3 (ix3 b s k)) (fun k j => x8 (ix3 1 k j)) j := by
  pointwise [Read.val_main_v36, Read.val_main_v37, Read.val_main_v38, Read.val_main_v39, Read.val_main_v40, ref_gate1, ref_pre1, branch]

theorem ref_pre2 (x1 : FVec Ideal S32x2048x1024 .bf16) (x6 : FVec Ideal S4x1024x1024 .f32) (x7 : FVec Ideal S4x1024 .f32) (b : Fin 32) (s : Fin 2048) (j : Fin 1024) :
    Read.val_main_v49 (F := Ideal) x1 x6 x7 (ix3 b s j) = ∑ k, x1 (ix3 b s k) * x6 (ix3 2 k j) + x7 (ix2 2 j) := by
  pointwise [Read.val_main_v0, Read.val_main_v42, Read.val_main_v43, Read.val_main_v44, Read.val_main_v45, Read.val_main_v46, Read.val_main_v47, Read.val_main_v48, Read.val_main_v49]

theorem ref_gate2 (x1 : FVec Ideal S32x2048x1024 .bf16) (x6 : FVec Ideal S4x1024x1024 .f32) (x7 : FVec Ideal S4x1024 .f32) (b : Fin 32) (s : Fin 2048) (j : Fin 1024) :
    Read.val_main_v55 (F := Ideal) x1 x6 x7 (ix3 b s j) = Ideal.logistic (Read.val_main_v49 (F := Ideal) x1 x6 x7 (ix3 b s j)) := by
  rw [Read.val_main_v55_apply, Read.val_main_v54_apply, Read.val_main_v53_apply, Read.val_main_v52_apply, Read.val_main_v51_apply, Read.val_main_v50_apply]
  generalize Read.val_main_v49 (F := Ideal) x1 x6 x7 (ix3 b s j) = z
  pointwise [Read.val_main_cst_4, Read.val_main_cst_5]
  rfl

theorem ref_branch2 (x1 : FVec Ideal S32x2048x1024 .bf16) (x4 : FVec Ideal S32x2048x256 .bf16) (x6 : FVec Ideal S4x1024x1024 .f32) (x7 : FVec Ideal S4x1024 .f32) (x8 : FVec Ideal S4x256x1024 .f32) (b : Fin 32) (s : Fin 2048) (j : Fin 1024) :
    Read.val_main_v60 (F := Ideal) x1 x4 x6 x7 x8 (ix3 b s j) = branch (fun k => x1 (ix3 b s k)) (fun k j => x6 (ix3 2 k j))
      (fun j => x7 (ix2 2 j)) (fun k => x4 (ix3 b s k)) (fun k j => x8 (ix3 2 k j)) j := by
  pointwise [Read.val_main_v56, Read.val_main_v57, Read.val_main_v58, Read.val_main_v59, Read.val_main_v60, ref_gate2, ref_pre2, branch]

theorem ref_pre3 (x1 : FVec Ideal S32x2048x1024 .bf16) (x6 : FVec Ideal S4x1024x1024 .f32) (x7 : FVec Ideal S4x1024 .f32) (b : Fin 32) (s : Fin 2048) (j : Fin 1024) :
    Read.val_main_v69 (F := Ideal) x1 x6 x7 (ix3 b s j) = ∑ k, x1 (ix3 b s k) * x6 (ix3 3 k j) + x7 (ix2 3 j) := by
  pointwise [Read.val_main_v0, Read.val_main_v62, Read.val_main_v63, Read.val_main_v64, Read.val_main_v65, Read.val_main_v66, Read.val_main_v67, Read.val_main_v68, Read.val_main_v69]

theorem ref_gate3 (x1 : FVec Ideal S32x2048x1024 .bf16) (x6 : FVec Ideal S4x1024x1024 .f32) (x7 : FVec Ideal S4x1024 .f32) (b : Fin 32) (s : Fin 2048) (j : Fin 1024) :
    Read.val_main_v75 (F := Ideal) x1 x6 x7 (ix3 b s j) = Ideal.logistic (Read.val_main_v69 (F := Ideal) x1 x6 x7 (ix3 b s j)) := by
  rw [Read.val_main_v75_apply, Read.val_main_v74_apply, Read.val_main_v73_apply, Read.val_main_v72_apply, Read.val_main_v71_apply, Read.val_main_v70_apply]
  generalize Read.val_main_v69 (F := Ideal) x1 x6 x7 (ix3 b s j) = z
  pointwise [Read.val_main_cst_6, Read.val_main_cst_7]
  rfl

theorem ref_branch3 (x1 : FVec Ideal S32x2048x1024 .bf16) (x5 : FVec Ideal S32x2048x256 .bf16) (x6 : FVec Ideal S4x1024x1024 .f32) (x7 : FVec Ideal S4x1024 .f32) (x8 : FVec Ideal S4x256x1024 .f32) (b : Fin 32) (s : Fin 2048) (j : Fin 1024) :
    Read.val_main_v80 (F := Ideal) x1 x5 x6 x7 x8 (ix3 b s j) = branch (fun k => x1 (ix3 b s k)) (fun k j => x6 (ix3 3 k j))
      (fun j => x7 (ix2 3 j)) (fun k => x5 (ix3 b s k)) (fun k j => x8 (ix3 3 k j)) j := by
  pointwise [Read.val_main_v76, Read.val_main_v77, Read.val_main_v78, Read.val_main_v79, Read.val_main_v80, ref_gate3, ref_pre3, branch]

theorem ref_apply (x0 : FVec Ideal S32x2048x1024 .f32) (x1 : FVec Ideal S32x2048x1024 .bf16) (x2 : FVec Ideal S32x2048x256 .bf16) (x3 : FVec Ideal S32x2048x256 .bf16) (x4 : FVec Ideal S32x2048x256 .bf16) (x5 : FVec Ideal S32x2048x256 .bf16) (x6 : FVec Ideal S4x1024x1024 .f32) (x7 : FVec Ideal S4x1024 .f32) (x8 : FVec Ideal S4x256x1024 .f32) (x9 : FVec Ideal S1024x1024 .f32) (b : Fin 32) (s : Fin 2048) (j : Fin 1024) :
    Read.val_main_v83 (F := Ideal) x0 x1 x2 x3 x4 x5 x6 x7 x8 x9 (ix3 b s j)
      = mergeRow (fun k => x0 (ix3 b s k)) (fun k => x1 (ix3 b s k)) (fun i k j => x6 (ix3 i k j)) (fun i j => x7 (ix2 i j))
          (fun k => x2 (ix3 b s k)) (fun k => x3 (ix3 b s k)) (fun k => x4 (ix3 b s k)) (fun k => x5 (ix3 b s k))
          (fun i k j => x8 (ix3 i k j)) (fun k j => x9 (ix2 k j)) j := by
  pointwise [Read.val_main_v1, Read.val_main_cst, Read.val_main_v21, Read.val_main_v41, Read.val_main_v61, Read.val_main_v81, Read.val_main_v82, Read.val_main_v83, ref_branch0, ref_branch1, ref_branch2, ref_branch3, mergeRow]

end Cert.MergeRefIdeal.Row

end
-- ==== Proof.MergeValue.lean ====
module

public import proofs.«01_k».proof.Proof.MergeRow
public import proofs.«01_k».proof.Proof.Gen.MergeIdeal.Value
public import Idealize.ShloMosaic.Lib.Pointwise
public import Idealize.ShloMosaic.Lib.Pipeline.ValueKit
public import Idealize.ShloMosaic.Lib.Claim

@[expose] public section

set_option maxRecDepth 16384

noncomputable section

namespace Cert.MergeIdeal.Final

open Idealize.ShloMosaic Idealize.ShloMosaic.TcCoe Idealize.SL.Sem
open Cert.MergeIdeal Cert.MergeIdeal.Gen
open Idealize.ShloMosaic.Pipeline (Dat)
open Cert.MergeRefIdeal.Row

variable (m : (ℓ : Loc nD τ sig) → Buf (Elt Ideal) ℓ)

theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_10.index t = ![t.val / 4, t.val % 4, 0]
    ∧ win0_6.index t = ![0, 0, 0] ∧ win0_7.index t = ![0, 0] ∧ win0_8.index t = ![0, 0, 0] ∧ win0_9.index t = ![0, 0] :=
  (by decide +kernel : ∀ t : Fin grid0.N, _)

/-- The order in which the attention heads lie. -/
def swap : Fin 4 → Fin 4 := ![0, 2, 1, 3]

/-- The column that holds column `k` once the heads are swapped. -/
def perm (k : Fin 256) : Fin 256 := ⟨(swap ⟨k.val / 64, by omega⟩).val * 64 + k.val % 64, by omega⟩

theorem starts0 (h : Fin 4) : min (broadcastInDim S4x1 ![0] bcast_S4_S4x1_0
          (select
            (cmpi CmpIPredicate.slt (fun i => lit0 (S4.rowMajor i))
              (broadcastInDim S4 ![] bcast_S_S4 (constantI S_ 32 0#32)))
            (addi (fun i => lit0 (S4.rowMajor i)) (broadcastInDim S4 ![] bcast_S_S4 (constantI S_ 32 4#32))) fun i =>
            lit0 (S4.rowMajor i)) (ix2 h 0)).toInt.toNat 3 = (swap h).val := by
  fin_cases h <;> rfl

theorem starts1 (h : Fin 4) : min (broadcastInDim S4x1 ![0] bcast_S4_S4x1_0
          (select
            (cmpi CmpIPredicate.slt (fun i => lit1 (S4.rowMajor i))
              (broadcastInDim S4 ![] bcast_S_S4 (constantI S_ 32 0#32)))
            (addi (fun i => lit1 (S4.rowMajor i)) (broadcastInDim S4 ![] bcast_S_S4 (constantI S_ 32 4#32))) fun i =>
            lit1 (S4.rowMajor i)) (ix2 h 0)).toInt.toNat 3 = (swap h).val := by
  fin_cases h <;> rfl

theorem gather_heads (x : S32x2048x4x64.Idx → EReal) (st : IVec S4x1 32) (p : Fin 4 → Fin 4)
    (hp : ∀ h, min (st (ix2 h 0)).toInt.toNat 3 = (p h).val) (b : Fin 32) (s : Fin 2048) (h : Fin 4) (d : Fin 64) :
    Host.gather gather_S32x2048x4x64_S4x1_S32x2048x4x64_013_2_n_n_2_1_322048164 x st (ix4 b s h d) = x (ix4 b s (p h) d) := by
  refine congrArg x (funext fun a => Fin.ext ?_)
  match a with
  | ⟨0, _⟩ => exact (Nat.zero_add _)
  | ⟨1, _⟩ => exact (Nat.zero_add _)
  | ⟨2, _⟩ =>
    have e : gather_S32x2048x4x64_S4x1_S32x2048x4x64_013_2_n_n_2_1_322048164.siIdx (ix4 b s h d) ⟨0, by decide⟩ = ix2 h 0 := by
      funext a
      match a with
      | ⟨0, _⟩ => rfl
      | ⟨1, _⟩ => rfl
    exact (congrArg (fun q => min (st q).toInt.toNat 3) e).trans (hp h)
  | ⟨3, _⟩ => exact (Nat.zero_add _)

theorem gather_rows (x : S4x64x1024.Idx → EReal) (st : IVec S4x1 32) (p : Fin 4 → Fin 4)
    (hp : ∀ h, min (st (ix2 h 0)).toInt.toNat 3 = (p h).val) (h : Fin 4) (d : Fin 64) (j : Fin 1024) :
    Host.gather gather_S4x64x1024_S4x1_S4x64x1024_12_0_n_n_0_1_1641024 x st (ix3 h d j) = x (ix3 (p h) d j) := by
  refine congrArg x (funext fun a => Fin.ext ?_)
  match a with
  | ⟨0, _⟩ =>
    have e : gather_S4x64x1024_S4x1_S4x64x1024_12_0_n_n_0_1_1641024.siIdx (ix3 h d j) ⟨0, by decide⟩ = ix2 h 0 := by
      funext a
      match a with
      | ⟨0, _⟩ => rfl
      | ⟨1, _⟩ => rfl
    exact (congrArg (fun q => min (st q).toInt.toNat 3) e).trans (hp h)
  | ⟨1, _⟩ => exact (Nat.zero_add _)
  | ⟨2, _⟩ => exact (Nat.zero_add _)

theorem perm_perm : ∀ k : Fin 256, perm (perm k) = k := by decide +kernel

/-- A sum over the columns does not depend on the order of the heads. -/
theorem branch_perm (h : Fin 1024 → EReal) (wg : Fin 1024 → Fin 1024 → EReal) (b : Fin 1024 → EReal) (o : Fin 256 → EReal)
    (wb : Fin 256 → Fin 1024 → EReal) (j : Fin 1024) :
    branch h wg b (fun k => o (perm k)) (fun k j => wb (perm k) j) j = branch h wg b o wb j :=
  congrArg (Ideal.logistic (∑ k, h k * wg k j + b j) * ·)
    (Function.Bijective.sum_comp (Function.Involutive.bijective perm_perm) fun k => o k * wb k j)

theorem entry2 (c : Dev nD) (b : Fin 32) (s : Fin 2048) (k : Fin 256) :
    V m c main_v8 (ix3 b s k) = (m ((c : Thread nD τ).loc main_arg2)) (ix3 b s (perm k)) := by
  entry_read
  pointwise
  refine (gather_heads _ _ swap starts0 _ _ _ _).trans ?_
  rfl

theorem entry8 (c : Dev nD) (k : Fin 256) (j : Fin 1024) :
    V m c main_v23 (ix3 0 k j) = (m ((c : Thread nD τ).loc main_arg8)) (ix3 0 (perm k) j) := by
  entry_read
  pointwise
  refine (gather_rows _ _ swap starts1 _ _ _).trans ?_
  rfl

theorem entry8at1 (c : Dev nD) (k : Fin 256) (j : Fin 1024) :
    V m c main_v23 (ix3 1 k j) = (m ((c : Thread nD τ).loc main_arg8)) (ix3 1 k j) := by
  entry_read
  pointwise

theorem entry8at2 (c : Dev nD) (k : Fin 256) (j : Fin 1024) :
    V m c main_v23 (ix3 2 k j) = (m ((c : Thread nD τ).loc main_arg8)) (ix3 2 k j) := by
  entry_read
  pointwise

theorem entry8at3 (c : Dev nD) (k : Fin 256) (j : Fin 1024) :
    V m c main_v23 (ix3 3 k j) = (m ((c : Thread nD τ).loc main_arg8)) (ix3 3 k j) := by
  entry_read
  pointwise

theorem blk0 (c : Dev nD) (t : Fin cfg0.N) (y : S1x512x1024.Idx) (k : Fin 1024) :
    iblk m c 0 t (ix3 0 (y 1) k) = (m ((c : Thread nD τ).loc main_arg0)) (ix3 (((cfg0.win 10).blk t).view.emb y 0) (((cfg0.win 10).blk t).view.emb y 1) k) := by
  blk_ext [iblk, V, idx t]

theorem blk1 (c : Dev nD) (t : Fin cfg0.N) (y : S1x512x1024.Idx) (k : Fin 1024) :
    iblk m c 1 t (ix3 0 (y 1) k) = (m ((c : Thread nD τ).loc main_arg1)) (ix3 (((cfg0.win 10).blk t).view.emb y 0) (((cfg0.win 10).blk t).view.emb y 1) k) := by
  blk_ext [iblk, V, idx t]

theorem blk3 (c : Dev nD) (t : Fin cfg0.N) (y : S1x512x1024.Idx) (k : Fin 256) :
    iblk m c 3 t (ix3 0 (y 1) k) = (m ((c : Thread nD τ).loc main_arg3)) (ix3 (((cfg0.win 10).blk t).view.emb y 0) (((cfg0.win 10).blk t).view.emb y 1) k) := by
  blk_ext [iblk, V, idx t]

theorem blk4 (c : Dev nD) (t : Fin cfg0.N) (y : S1x512x1024.Idx) (k : Fin 256) :
    iblk m c 4 t (ix3 0 (y 1) k) = (m ((c : Thread nD τ).loc main_arg4)) (ix3 (((cfg0.win 10).blk t).view.emb y 0) (((cfg0.win 10).blk t).view.emb y 1) k) := by
  blk_ext [iblk, V, idx t]

theorem blk5 (c : Dev nD) (t : Fin cfg0.N) (y : S1x512x1024.Idx) (k : Fin 256) :
    iblk m c 5 t (ix3 0 (y 1) k) = (m ((c : Thread nD τ).loc main_arg5)) (ix3 (((cfg0.win 10).blk t).view.emb y 0) (((cfg0.win 10).blk t).view.emb y 1) k) := by
  blk_ext [iblk, V, idx t]

theorem blk2 (c : Dev nD) (t : Fin cfg0.N) (y : S1x512x1024.Idx) (k : Fin 256) :
    iblk m c 2 t (ix3 0 (y 1) k) = (m ((c : Thread nD τ).loc main_arg2)) (ix3 (((cfg0.win 10).blk t).view.emb y 0) (((cfg0.win 10).blk t).view.emb y 1) (perm k)) := by
  refine Eq.trans ?_ (entry2 m c (((cfg0.win 10).blk t).view.emb y 0) (((cfg0.win 10).blk t).view.emb y 1) k)
  blk_ext [iblk, idx t]

theorem blk6 (c : Dev nD) (t : Fin cfg0.N) (i : Fin 4) (k j : Fin 1024) :
    iblk m c 6 t (ix3 i k j) = (m ((c : Thread nD τ).loc main_arg6)) (ix3 i k j) := by
  blk_simp [iblk, idx t]
  entry_read
  pointwise
  blk_ext [idx t]

theorem blk7 (c : Dev nD) (t : Fin cfg0.N) (i : Fin 4) (j : Fin 1024) :
    iblk m c 7 t (ix2 i j) = (m ((c : Thread nD τ).loc main_arg7)) (ix2 i j) := by
  blk_ext [iblk, V, idx t]

theorem blk9 (c : Dev nD) (t : Fin cfg0.N) (k j : Fin 1024) :
    iblk m c 9 t (ix2 k j) = (m ((c : Thread nD τ).loc main_arg9)) (ix2 k j) := by
  blk_simp [iblk, idx t]
  entry_read
  pointwise
  blk_ext [idx t]

theorem blk8first (c : Dev nD) (t : Fin cfg0.N) (k : Fin 256) (j : Fin 1024) :
    iblk m c 8 t (ix3 0 k j) = (m ((c : Thread nD τ).loc main_arg8)) (ix3 0 (perm k) j) := by
  refine Eq.trans ?_ (entry8 m c k j)
  blk_ext [iblk, idx t]

theorem blk8at1 (c : Dev nD) (t : Fin cfg0.N) (k : Fin 256) (j : Fin 1024) :
    iblk m c 8 t (ix3 1 k j) = (m ((c : Thread nD τ).loc main_arg8)) (ix3 1 k j) := by
  refine Eq.trans ?_ (entry8at1 m c k j)
  blk_ext [iblk, idx t]

theorem blk8at2 (c : Dev nD) (t : Fin cfg0.N) (k : Fin 256) (j : Fin 1024) :
    iblk m c 8 t (ix3 2 k j) = (m ((c : Thread nD τ).loc main_arg8)) (ix3 2 k j) := by
  refine Eq.trans ?_ (entry8at2 m c k j)
  blk_ext [iblk, idx t]

theorem blk8at3 (c : Dev nD) (t : Fin cfg0.N) (k : Fin 256) (j : Fin 1024) :
    iblk m c 8 t (ix3 3 k j) = (m ((c : Thread nD τ).loc main_arg8)) (ix3 3 k j) := by
  refine Eq.trans ?_ (entry8at3 m c k j)
  blk_ext [iblk, idx t]

theorem col (t : Fin cfg0.N) (y : S1x512x1024.Idx) : (y 2).val = ((((cfg0.win 10).blk t).view.emb y) 2).val := by
  blk_simp [idx t]

theorem out_apply (v0 : FVec Ideal S1x512x1024 .f32) (v1 : FVec Ideal S1x512x1024 .bf16) (v2 v3 v4 v5 : FVec Ideal S1x512x256 .bf16)
    (v6 : FVec Ideal S4x1024x1024 .bf16) (v7 : FVec Ideal S4x1024 .f32) (v8 : FVec Ideal S4x256x1024 .bf16) (v9 : FVec Ideal S1024x1024 .bf16) (u : Fin 1) (r : Fin 512) (j : Fin 1024) :
    out0_10 (F := Ideal) v0 v1 v2 v3 v4 v5 v6 v7 v8 v9 (ix3 u r j) = mergeRow (fun k => v0 (ix3 0 r k)) (fun k => v1 (ix3 0 r k))
      (fun i k j => v6 (ix3 i k j)) (fun i j => v7 (ix2 i j)) (fun k => v2 (ix3 0 r k)) (fun k => v3 (ix3 0 r k))
      (fun k => v4 (ix3 0 r k)) (fun k => v5 (ix3 0 r k)) (fun i k j => v8 (ix3 i k j)) (fun k j => v9 (ix2 k j)) j := by
  obtain rfl : u = 0 := Subsingleton.elim _ _
  unfold out0_10
  frame_out
  pointwise [k0_pay1, k0_pay2, k0_pay3, k0_pay4, k0_pay5, mergeRow, branch]

/-- What the program returns, as the reference reads it. -/
abbrev REF (X0 : FVec Ideal S32x2048x1024 .f32) (X1 : FVec Ideal S32x2048x1024 .bf16) (X2 X3 X4 X5 : FVec Ideal S32x2048x256 .bf16)
    (X6 : FVec Ideal S4x1024x1024 .f32) (X7 : FVec Ideal S4x1024 .f32) (X8 : FVec Ideal S4x256x1024 .f32) (X9 : FVec Ideal S1024x1024 .f32) : FVec Ideal S32x2048x1024 .f32 :=
  Cert.MergeRefIdeal.Read.val_main_v83 (F := Ideal) X0 X1 X2 X3 X4 X5 X6 X7 X8 X9

theorem out_ref (v0 : FVec Ideal S1x512x1024 .f32) (v1 : FVec Ideal S1x512x1024 .bf16) (v2 v3 v4 v5 : FVec Ideal S1x512x256 .bf16)
    (v6 : FVec Ideal S4x1024x1024 .bf16) (v7 : FVec Ideal S4x1024 .f32) (v8 : FVec Ideal S4x256x1024 .bf16) (v9 : FVec Ideal S1024x1024 .bf16)
    (X0 : FVec Ideal S32x2048x1024 .f32) (X1 : FVec Ideal S32x2048x1024 .bf16) (X2 X3 X4 X5 : FVec Ideal S32x2048x256 .bf16)
    (X6 : FVec Ideal S4x1024x1024 .f32) (X7 : FVec Ideal S4x1024 .f32) (X8 : FVec Ideal S4x256x1024 .f32) (X9 : FVec Ideal S1024x1024 .f32) (y : S1x512x1024.Idx) (z : S32x2048x1024.Idx) (hj : (y 2).val = (z 2).val)
    (h0 : ∀ k, v0 (ix3 0 (y 1) k) = X0 (ix3 (z 0) (z 1) k)) (h1 : ∀ k, v1 (ix3 0 (y 1) k) = X1 (ix3 (z 0) (z 1) k))
    (h2 : ∀ k, v2 (ix3 0 (y 1) k) = X2 (ix3 (z 0) (z 1) (perm k))) (h3 : ∀ k, v3 (ix3 0 (y 1) k) = X3 (ix3 (z 0) (z 1) k))
    (h4 : ∀ k, v4 (ix3 0 (y 1) k) = X4 (ix3 (z 0) (z 1) k)) (h5 : ∀ k, v5 (ix3 0 (y 1) k) = X5 (ix3 (z 0) (z 1) k))
    (h6 : ∀ i k j, v6 (ix3 i k j) = X6 (ix3 i k j)) (h7 : ∀ i j, v7 (ix2 i j) = X7 (ix2 i j))
    (h80 : ∀ k j, v8 (ix3 0 k j) = X8 (ix3 0 (perm k) j)) (h81 : ∀ k j, v8 (ix3 1 k j) = X8 (ix3 1 k j))
    (h82 : ∀ k j, v8 (ix3 2 k j) = X8 (ix3 2 k j)) (h83 : ∀ k j, v8 (ix3 3 k j) = X8 (ix3 3 k j))
    (h9 : ∀ k j, v9 (ix2 k j) = X9 (ix2 k j)) :
    out0_10 (F := Ideal) v0 v1 v2 v3 v4 v5 v6 v7 v8 v9 y = REF X0 X1 X2 X3 X4 X5 X6 X7 X8 X9 z := by
  idx_vars y
  idx_vars z
  refine (out_apply v0 v1 v2 v3 v4 v5 v6 v7 v8 v9 _ _ _).trans (Eq.trans ?_ (ref_apply X0 X1 X2 X3 X4 X5 X6 X7 X8 X9 _ _ _).symm)
  refine Eq.trans ?_ (congrArg _ (Fin.ext hj))
  unfold mergeRow
  beta_reduce
  simp only [h0, h1, h2, h3, h4, h5, h6, h7, h80, h81, h82, h83, h9]
  refine congrArg _ (Finset.sum_congr rfl fun k _ => ?_)
  exact congrArg (fun q => (q + _ + _ + _) * _) (branch_perm _ _ _ (fun k => X2 (ix3 _ _ k)) (fun k j => X8 (ix3 0 k j)) k)

theorem final (c : Dev nD) : (dats m 0 c).arrAt 10 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t _ y => ?_
  blk_simp
  rw [after0_10]
  exact out_ref (iblk m c 0 t) (iblk m c 1 t) (iblk m c 2 t) (iblk m c 3 t) (iblk m c 4 t) (iblk m c 5 t) (iblk m c 6 t) (iblk m c 7 t) (iblk m c 8 t) (iblk m c 9 t) _ _ _ _ _ _ _ _ _ _ y
    (((cfg0.win 10).blk t).view.emb y) (col t y) (blk0 m c t y) (blk1 m c t y) (blk2 m c t y) (blk3 m c t y) (blk4 m c t y) (blk5 m c t y)
    (blk6 m c t) (blk7 m c t) (blk8first m c t) (blk8at1 m c t) (blk8at2 m c t) (blk8at3 m c t) (blk9 m c t)

end Cert.MergeIdeal.Final

end
-- ==== Proof.MergeClaims.lean ====
module

public import proofs.«01_k».proof.Defs
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.MergeValue
public import Idealize.ShloMosaic.Lib.Claim

@[expose] public section

set_option maxRecDepth 16384

noncomputable section

namespace Cert.Proof.Merge

open Idealize.ShloMosaic Idealize.ShloMosaic.TcCoe Idealize.SL.Sem

theorem frame_kernel : Cert.quiescent_Merge (hMerge := Cert.Merge.Gen.facts) := fun m ρ _ => Cert.Merge.Gen.frame m ρ

theorem frame_ideal : Cert.quiescent_MergeIdeal (hMergeIdeal := Cert.MergeIdeal.Gen.facts) := fun m ρ _ => Cert.MergeIdeal.Gen.frame m ρ

theorem frame_reference : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem preserved : Cert.preserves_Merge_MergeIdeal := trivial

/-- The call's output array is the reference's result. -/
theorem value : Cert.algebraic_MergeIdeal_MergeRefIdeal (hMergeIdeal := Cert.MergeIdeal.Gen.facts)
    (hMergeRefIdeal := Cert.MergeRefIdeal.Gen.facts) := by
  pair_intro
  · run_from Cert.MergeIdeal.Gen.run_main m g
  · run_from Cert.MergeRefIdeal.Value.run m' g'
    refine (Cert.MergeRefIdeal.Read.val_main_v83_eq (F := Ideal) m' c).trans ?_
    have ha := hagree c
    simp only [ha]
    exact (Cert.MergeIdeal.Final.final m c).symm

end Cert.Proof.Merge

end
-- ==== Proof.MoePure.lean ====
module

public import proofs.«01_k».proof.Proof.Rows
public import Idealize.ShloMosaic.Lib.SortFacts

@[expose] public section

set_option maxRecDepth 16384

noncomputable section

namespace Cert.MoePure

open Idealize.ShloMosaic Idealize.ShloMosaic.TcCoe Idealize.SL.Sem
open Cert.Rows

/-! ## The two greatest of eight scores -/

/-- `a` is the place of the greatest score and `b` of the next one, equal scores taken from the left. -/
structure Top2 (f : Fin 8 → EReal) (a b : Fin 8) : Prop where
  first : ∀ j, j ≠ a → f j < f a ∨ (f j = f a ∧ a < j)
  ne : b ≠ a
  second : ∀ j, j ≠ a → j ≠ b → f j < f b ∨ (f j = f b ∧ b < j)

theorem insertBefore_congr {ι : Type} (B R : ι → ι → Bool) (a : ι) (l : List ι) (h : ∀ b ∈ l, B b a = R b a) :
    insertBefore B a l = insertBefore R a l := by
  induction l with
  | nil => rfl
  | cons b l ih =>
    unfold insertBefore
    rw [h b List.mem_cons_self, ih fun c hc => h c (List.mem_cons_of_mem _ hc)]

theorem stableSort_congr {ι : Type} (B R : ι → ι → Bool) (l : List ι) (h : l.Pairwise fun a b => B b a = R b a) :
    stableSort B l = stableSort R l := by
  induction l with
  | nil => rfl
  | cons a l ih =>
    rw [List.pairwise_cons] at h
    unfold stableSort
    rw [ih h.2]
    exact insertBefore_congr B R a _ fun b hb => h.1 b ((perm_stableSort R l).mem_iff.mp hb)

/-- Score first, then place. -/
def lexBefore (f : Fin 8 → EReal) (a b : Fin 8) : Bool := decide (f b < f a ∨ (f b = f a ∧ a < b))

/-- The places of the scores in descending order, equal scores from the left. -/
def order (f : Fin 8 → EReal) (k : Fin 8) : Fin 8 :=
  sortedFrom (fun k k' => FloatOps.cmpfTotal (F := Ideal) (φ := .f32) .gt (f k) (f k') == 1#1) k

theorem cmp_gt (x y : EReal) : (FloatOps.cmpfTotal (F := Ideal) (φ := .f32) .gt x y == 1#1) = decide (y < x) := by
  show (BitVec.ofBool (decide (y < x)) == 1#1) = decide (y < x)
  cases decide (y < x) <;> rfl

theorem order_eq (f : Fin 8 → EReal) : order f = sortedFrom (lexBefore f) := by
  have h : sortPositions 8 (fun k k' => FloatOps.cmpfTotal (F := Ideal) (φ := .f32) .gt (f k) (f k') == 1#1) = sortPositions 8 (lexBefore f) := by
    refine stableSort_congr _ _ _ ((List.pairwise_lt_finRange 8).imp fun {a b} hab => ?_)
    rw [cmp_gt]
    unfold lexBefore
    refine decide_eq_decide.mpr ⟨fun h => Or.inl h, fun h => h.elim id fun h => absurd h.2 (not_lt.mpr hab.le)⟩
  have gen : ∀ l l' : List (Fin 8), l = l' → ∀ (n : ℕ) (h1 : n < l.length) (h2 : n < l'.length), l.get ⟨n, h1⟩ = l'.get ⟨n, h2⟩ := by
    rintro l _ rfl n h1 h2; rfl
  funext k
  exact gen _ _ h k.val _ _

theorem lex_asymm (f : Fin 8 → EReal) (a b : Fin 8) (h : lexBefore f a b = true) : lexBefore f b a = false := by
  unfold lexBefore at *
  simp only [decide_eq_true_eq, decide_eq_false_iff_not] at *
  rintro (h' | h')
  · rcases h with h | h
    · exact lt_asymm h h'
    · exact absurd h.1 h'.ne'
  · rcases h with h | h
    · exact absurd h'.1 h.ne'
    · exact lt_asymm h.2 h'.2

theorem lex_total (f : Fin 8 → EReal) (a b : Fin 8) (h : lexBefore f a b = false) : b = a ∨ lexBefore f b a = true := by
  unfold lexBefore at *
  simp only [decide_eq_true_eq, decide_eq_false_iff_not, not_or, not_and, not_lt] at *
  rcases lt_trichotomy (f a) (f b) with h1 | h1 | h1
  · exact Or.inr (Or.inl h1)
  · rcases eq_or_lt_of_le (h.2 h1.symm) with h2 | h2
    · exact Or.inl h2
    · exact Or.inr (Or.inr ⟨h1, h2⟩)
  · exact absurd h1 (not_lt.mpr h.1)

theorem lex_trans (f : Fin 8 → EReal) (a b c : Fin 8) (h1 : lexBefore f a b = false) (h2 : lexBefore f b c = false) :
    lexBefore f a c = false := by
  rcases lex_total f a b h1 with rfl | h1
  · exact h2
  rcases lex_total f b c h2 with rfl | h2
  · exact lex_asymm f _ _ h1
  refine lex_asymm f _ _ ?_
  unfold lexBefore at *
  simp only [decide_eq_true_eq] at *
  rcases h1 with h1 | h1 <;> rcases h2 with h2 | h2
  · exact Or.inl (h1.trans h2)
  · exact Or.inl (h2.1 ▸ h1)
  · exact Or.inl (h1.1 ▸ h2)
  · exact Or.inr ⟨h1.1.trans h2.1, h2.2.trans h1.2⟩

theorem order_top2 (f : Fin 8 → EReal) : Top2 f (order f 0) (order f 1) := by
  have inv : ∀ i j : Fin 8, i < j → lexBefore f (order f j) (order f i) = false := by
    rw [order_eq]
    exact sortedFrom_noInversion (lexBefore f) (lexBefore f) (lex_asymm f) (fun _ _ h => h) (lex_trans f)
  have inj : Function.Injective (order f) := sortedFrom_injective _
  have sur : Function.Surjective (order f) := sortedFrom_surjective _
  have key : ∀ i j : Fin 8, i < j → f (order f j) < f (order f i) ∨ (f (order f j) = f (order f i) ∧ order f i < order f j) := by
    intro i j hij
    rcases lex_total f _ _ (inv i j hij) with h | h
    · exact absurd (inj h) hij.ne
    · unfold lexBefore at h
      simpa using h
  refine ⟨fun j hj => ?_, fun h => absurd (inj h) (by decide), fun j hj hj' => ?_⟩
  · obtain ⟨k, rfl⟩ := sur j
    refine key 0 k (Fin.pos_iff_ne_zero.mpr ?_)
    rintro rfl; exact hj rfl
  · obtain ⟨k, rfl⟩ := sur j
    refine key 1 k ?_
    have h0 : k ≠ 0 := by rintro rfl; exact hj rfl
    have h1 : k ≠ 1 := by rintro rfl; exact hj' rfl
    rw [Fin.lt_def]; rw [ne_eq, Fin.ext_iff] at h0 h1; change k.val ≠ 0 at h0; change k.val ≠ 1 at h1; change 1 < k.val; omega

/-! ## The same two found by maxima over 128 lanes -/

def kmax (L : Fin 128 → EReal) : EReal := Finset.univ.fold max ⊥ L

def kidx (L : Fin 128 → EReal) (m : EReal) : BitVec 32 :=
  Finset.univ.fold IntOp.minsi 2147483647#32 fun l : Fin 128 => if L l = m then BitVec.ofNat 32 l.val else 128#32

theorem fold_minsi (v : Fin 128 → BitVec 32) (i : BitVec 32) (s : Finset (Fin 128)) :
    (∀ l ∈ s, (s.fold IntOp.minsi i v).toInt ≤ (v l).toInt) ∧ (s.fold IntOp.minsi i v = i ∨ ∃ l ∈ s, s.fold IntOp.minsi i v = v l)
      ∧ (s.fold IntOp.minsi i v).toInt ≤ i.toInt := by
  induction s using Finset.induction_on with
  | empty => exact ⟨fun l h => absurd h (Finset.notMem_empty l), Or.inl rfl, le_rfl⟩
  | insert a s ha ih =>
    rw [Finset.fold_insert ha]
    obtain ⟨h1, h2, h3⟩ := ih
    generalize s.fold IntOp.minsi i v = w at *
    unfold IntOp.minsi
    by_cases h : (v a).slt w
    · rw [if_pos h]
      rw [BitVec.slt_iff_toInt_lt] at h
      refine ⟨fun l hl => ?_, Or.inr ⟨a, Finset.mem_insert_self a s, rfl⟩, h.le.trans h3⟩
      rcases Finset.mem_insert.mp hl with rfl | hl
      · exact le_rfl
      · exact h.le.trans (h1 l hl)
    · rw [if_neg h]
      rw [BitVec.slt_iff_toInt_lt, not_lt] at h
      refine ⟨fun l hl => ?_, h2.imp id fun ⟨l, hl, e⟩ => ⟨l, Finset.mem_insert_of_mem hl, e⟩, h3⟩
      rcases Finset.mem_insert.mp hl with rfl | hl
      · exact h
      · exact h1 l hl

theorem toInt_lane (n : ℕ) (h : n ≤ 128) : (BitVec.ofNat 32 n).toInt = n := by
  rw [BitVec.toInt_eq_toNat_of_lt (by rw [BitVec.toNat_ofNat]; omega), BitVec.toNat_ofNat]
  omega

theorem kmax_eq (L : Fin 128 → EReal) (a : Fin 128) (h : ∀ j, L j ≤ L a) : kmax L = L a :=
  le_antisymm ((Finset.fold_max_le _).2 ⟨bot_le, fun j _ => h j⟩) ((Finset.le_fold_max _).2 (Or.inr ⟨a, Finset.mem_univ _, le_rfl⟩))

theorem kidx_eq (L : Fin 128 → EReal) (a : Fin 128) (h : ∀ j, j ≠ a → L j < L a ∨ (L j = L a ∧ a < j)) :
    kidx L (L a) = BitVec.ofNat 32 a.val := by
  obtain ⟨h1, h2, h3⟩ := fold_minsi (fun l => if L l = L a then BitVec.ofNat 32 l.val else 128#32) 2147483647#32 Finset.univ
  have e : kidx L (L a) = Finset.univ.fold IntOp.minsi 2147483647#32 fun l : Fin 128 => if L l = L a then BitVec.ofNat 32 l.val else 128#32 := rfl
  rw [← e] at h1 h2 h3
  have ha := h1 a (Finset.mem_univ a)
  rw [if_pos rfl, toInt_lane a.val a.isLt.le] at ha
  rcases h2 with h2 | ⟨l, -, h2⟩
  · rw [h2] at ha
    have : (2147483647#32).toInt = 2147483647 := by decide
    omega
  · by_cases hl : L l = L a
    · rw [if_pos hl] at h2
      by_cases hla : l = a
      · rw [h2, hla]
      · rcases h l hla with h' | h'
        · exact absurd hl h'.ne
        · rw [h2, toInt_lane l.val l.isLt.le] at ha
          have := h'.2
          rw [Fin.lt_def] at this
          omega
    · rw [if_neg hl] at h2
      rw [h2] at ha
      have : (128#32).toInt = 128 := by decide
      omega

/-- The lane a score has among the 128. -/
def lane (e : Fin 8) : Fin 128 := ⟨e.val, by omega⟩

/-- The eight scores on 128 lanes, the others below every score. -/
def mask (f : Fin 8 → EReal) (l : Fin 128) : EReal := if h : l.val < 8 then f ⟨l.val, h⟩ else ⊥

theorem mask_lane (f : Fin 8 → EReal) (e : Fin 8) : mask f (lane e) = f e := dif_pos e.isLt

theorem lane_eq (l : Fin 128) (h : l.val < 8) : lane ⟨l.val, h⟩ = l := rfl

theorem lane_inj {a b : Fin 8} (h : lane a = lane b) : a = b := Fin.ext (congrArg (fun l : Fin 128 => l.val) h)

theorem ofNat_inj {a b : ℕ} (ha : a < 128) (hb : b < 128) : BitVec.ofNat 32 a = BitVec.ofNat 32 b ↔ a = b := by
  constructor
  · intro h
    have := congrArg BitVec.toNat h
    rw [BitVec.toNat_ofNat, BitVec.toNat_ofNat] at this
    omega
  · rintro rfl; rfl

theorem mask_first {f : Fin 8 → EReal} {a b : Fin 8} (h : Top2 f a b) (hf : ∀ e, f e ≠ ⊥) (j : Fin 128) (hj : j ≠ lane a) :
    mask f j < mask f (lane a) ∨ (mask f j = mask f (lane a) ∧ lane a < j) := by
  rw [mask_lane]
  unfold mask
  by_cases hl : j.val < 8
  · rw [dif_pos hl]
    exact h.first ⟨j.val, hl⟩ fun e => hj (by rw [← e]; rfl)
  · rw [dif_neg hl]
    exact Or.inl (bot_lt_iff_ne_bot.mpr (hf a))

/-- The scores with the best one's lane taken out. -/
def drop (f : Fin 8 → EReal) (a : Fin 8) (l : Fin 128) : EReal := if l = lane a then ⊥ else mask f l

theorem drop_lane {f : Fin 8 → EReal} {a b : Fin 8} (h : b ≠ a) : drop f a (lane b) = f b := by
  unfold drop
  rw [if_neg fun e => h (lane_inj e), mask_lane]

theorem drop_first {f : Fin 8 → EReal} {a b : Fin 8} (h : Top2 f a b) (hf : ∀ e, f e ≠ ⊥) (j : Fin 128) (hj : j ≠ lane b) :
    drop f a j < drop f a (lane b) ∨ (drop f a j = drop f a (lane b) ∧ lane b < j) := by
  rw [drop_lane h.ne]
  unfold drop mask
  by_cases ha : j = lane a
  · rw [if_pos ha]
    exact Or.inl (bot_lt_iff_ne_bot.mpr (hf b))
  rw [if_neg ha]
  by_cases hl : j.val < 8
  · rw [dif_pos hl]
    exact h.second ⟨j.val, hl⟩ (fun e => ha (by rw [← e]; rfl)) fun e => hj (by rw [← e]; rfl)
  · rw [dif_neg hl]
    exact Or.inl (bot_lt_iff_ne_bot.mpr (hf b))

theorem le_of_first {L : Fin 128 → EReal} {a : Fin 128} (h : ∀ j, j ≠ a → L j < L a ∨ (L j = L a ∧ a < j)) (j : Fin 128) : L j ≤ L a := by
  by_cases e : j = a
  · rw [e]
  · exact (h j e).elim le_of_lt fun h => h.1.le

/-! ## The weights of the two -/

/-- The weight of expert `e`: the two best scores' softmax, nothing for the others. -/
def wt (f : Fin 8 → EReal) (e : Fin 8) : EReal :=
  if e = order f 0 then Ideal.div 1 (1 + Ideal.exp (f (order f 1) - f (order f 0)))
  else if e = order f 1 then Ideal.exp (f (order f 1) - f (order f 0)) * Ideal.div 1 (1 + Ideal.exp (f (order f 1) - f (order f 0)))
  else 0

/-- The weights as the maxima over the lanes give them. -/
def laneWt (L : Fin 128 → EReal) (l : Fin 128) : EReal :=
  let i1 := kidx L (kmax L)
  let R : Fin 128 → EReal := fun x => Scalar.select (IntOp.cmpi .eq (BitVec.ofNat 32 x.val) i1) ⊥ (L x)
  Scalar.select (IntOp.cmpi .eq (BitVec.ofNat 32 l.val) i1) (Ideal.div 1 (1 + Ideal.exp (kmax R - kmax L)))
    (Scalar.select (IntOp.cmpi .eq (BitVec.ofNat 32 l.val) (kidx R (kmax R)))
      (Ideal.exp (kmax R - kmax L) * Ideal.div 1 (1 + Ideal.exp (kmax R - kmax L))) 0)

theorem select_lane {α : Type} (l : Fin 128) (n : Fin 128) (x y : α) :
    Scalar.select (IntOp.cmpi .eq (BitVec.ofNat 32 l.val) (BitVec.ofNat 32 n.val)) x y = if l = n then x else y := by
  by_cases h : l = n
  · rw [if_pos h, h]; simp [IntOp.cmpi, Scalar.select]
  · rw [if_neg h]
    have h' : BitVec.ofNat 32 l.val ≠ BitVec.ofNat 32 n.val := fun e => h (Fin.ext ((ofNat_inj l.isLt n.isLt).mp e))
    have e : IntOp.cmpi .eq (BitVec.ofNat 32 l.val) (BitVec.ofNat 32 n.val) = 0#1 := by
      show BitVec.ofBool (BitVec.ofNat 32 l.val == BitVec.ofNat 32 n.val) = 0#1
      rw [beq_eq_false_iff_ne.mpr h']
      rfl
    rw [e]; rfl

theorem laneWt_eq (f : Fin 8 → EReal) (hf : ∀ e, f e ≠ ⊥) (e : Fin 8) : laneWt (mask f) (lane e) = wt f e := by
  have T := order_top2 f
  have m1 : kmax (mask f) = mask f (lane (order f 0)) := kmax_eq _ _ (le_of_first (mask_first T hf))
  have i1 : kidx (mask f) (kmax (mask f)) = BitVec.ofNat 32 (lane (order f 0)).val := by
    rw [m1]; exact kidx_eq _ _ (mask_first T hf)
  have R : (fun x : Fin 128 => Scalar.select (IntOp.cmpi .eq (BitVec.ofNat 32 x.val) (BitVec.ofNat 32 (lane (order f 0)).val)) ⊥ (mask f x))
      = drop f (order f 0) := by
    funext x
    rw [select_lane]
    rfl
  have m2 : kmax (drop f (order f 0)) = drop f (order f 0) (lane (order f 1)) := kmax_eq _ _ (le_of_first (drop_first T hf))
  have i2 : kidx (drop f (order f 0)) (kmax (drop f (order f 0))) = BitVec.ofNat 32 (lane (order f 1)).val := by
    rw [m2]; exact kidx_eq _ _ (drop_first T hf)
  unfold laneWt
  dsimp only
  rw [i1, R, i2, select_lane, select_lane, m1, m2, mask_lane, drop_lane T.ne]
  unfold wt
  have c : ∀ a : Fin 8, (lane e = lane a) = (e = a) := fun a => propext ⟨lane_inj, fun h => h ▸ rfl⟩
  simp only [c]

theorem bits_bot : Ideal.ofBits .f32 0xFF800000#32 = ⊥ := by
  simp [Ideal.ofBits, Ideal.ieee]

/-- A finite number that is not negative. -/
def NonnegFin (x : EReal) : Prop := ∃ r : ℝ, 0 ≤ r ∧ x = (r : EReal)

theorem div_coe (x y : ℝ) (h : y ≠ 0) : Ideal.div (x : EReal) (y : EReal) = ((x / y : ℝ) : EReal) := by
  unfold Ideal.div
  rw [if_neg (by exact_mod_cast h), div_eq_mul_inv, EReal.coe_mul, EReal.coe_inv]

theorem wt_coe (f : Fin 8 → EReal) (g : Fin 8 → ℝ) (hg : ∀ e, f e = (g e : EReal)) (e : Fin 8) :
    wt f e = ((if e = order f 0 then 1 / (1 + Real.exp (g (order f 1) - g (order f 0)))
      else if e = order f 1 then Real.exp (g (order f 1) - g (order f 0)) * (1 / (1 + Real.exp (g (order f 1) - g (order f 0)))) else 0 : ℝ) : EReal) := by
  unfold wt
  rw [hg, hg, ← EReal.coe_sub]
  have p := Real.exp_pos (g (order f 1) - g (order f 0))
  have h1 : (1 : EReal) + Ideal.exp ((g (order f 1) - g (order f 0) : ℝ) : EReal) = ((1 + Real.exp (g (order f 1) - g (order f 0)) : ℝ) : EReal) := by
    rw [EReal.coe_add]; rfl
  have h2 : Ideal.div 1 ((1 + Real.exp (g (order f 1) - g (order f 0)) : ℝ) : EReal) = ((1 / (1 + Real.exp (g (order f 1) - g (order f 0))) : ℝ) : EReal) :=
    div_coe 1 _ (by positivity)
  rw [h1, h2]
  split_ifs
  · rfl
  · rw [EReal.coe_mul]; rfl
  · rfl

theorem wt_nonneg (f : Fin 8 → EReal) (g : Fin 8 → ℝ) (hg : ∀ e, f e = (g e : EReal)) (e : Fin 8) : NonnegFin (wt f e) := by
  refine ⟨_, ?_, wt_coe f g hg e⟩
  have p := Real.exp_pos (g (order f 1) - g (order f 0))
  split_ifs <;> positivity

theorem onehot (a b : Fin 8) : (FloatOps.uitofp (F := Ideal) .f32 (IntOp.cmpi .eq (BitVec.ofNat 32 a.val) (BitVec.ofNat 32 b.val)) : EReal)
    = if a = b then 1 else 0 := by
  by_cases h : a = b
  · rw [if_pos h, h]
    have e : IntOp.cmpi .eq (BitVec.ofNat 32 b.val) (BitVec.ofNat 32 b.val) = 1#1 := by
      show BitVec.ofBool (BitVec.ofNat 32 b.val == BitVec.ofNat 32 b.val) = 1#1
      rw [beq_self_eq_true]
      rfl
    rw [e]
    show (((1#1 : BitVec 1).toNat : ℝ) : EReal) = 1
    simp
  · rw [if_neg h]
    have h' : BitVec.ofNat 32 a.val ≠ BitVec.ofNat 32 b.val :=
      fun e => h (Fin.ext ((ofNat_inj (a.isLt.trans (by decide)) (b.isLt.trans (by decide))).mp e))
    have e : IntOp.cmpi .eq (BitVec.ofNat 32 a.val) (BitVec.ofNat 32 b.val) = 0#1 := by
      show BitVec.ofBool (BitVec.ofNat 32 a.val == BitVec.ofNat 32 b.val) = 0#1
      rw [beq_eq_false_iff_ne.mpr h']
      rfl
    rw [e]
    show (((0#1 : BitVec 1).toNat : ℝ) : EReal) = 0
    simp

/-- Softmax of the two best scores, spread over the experts. -/
theorem softmax_two (f : Fin 8 → EReal) (g : Fin 8 → ℝ) (hg : ∀ e, f e = (g e : EReal)) (e : Fin 8) :
    (∑ k : Fin 2, (FloatOps.uitofp (F := Ideal) .f32 (IntOp.cmpi .eq (BitVec.ofNat 32 (order f ⟨k.val, by omega⟩).val) (BitVec.ofNat 32 e.val)) : EReal)
      * Ideal.div (Ideal.exp (f (order f ⟨k.val, by omega⟩) - f (order f 0)))
          (∑ x : Fin 2, Ideal.exp (f (order f ⟨x.val, by omega⟩) - f (order f 0)))) = wt f e := by
  rw [wt_coe f g hg, Fin.sum_univ_two, Fin.sum_univ_two, onehot, onehot]
  have i0 : (⟨(0 : Fin 2).val, by decide⟩ : Fin 8) = 0 := rfl
  have i1 : (⟨(1 : Fin 2).val, by decide⟩ : Fin 8) = 1 := rfl
  rw [i0, i1, hg, hg, ← EReal.coe_sub, ← EReal.coe_sub, sub_self]
  have p := Real.exp_pos (g (order f 1) - g (order f 0))
  have h0 : Ideal.exp ((0 : ℝ) : EReal) = ((1 : ℝ) : EReal) := by
    show ((Real.exp 0 : ℝ) : EReal) = _
    rw [Real.exp_zero]
  have h1 : Ideal.exp ((g (order f 1) - g (order f 0) : ℝ) : EReal) = ((Real.exp (g (order f 1) - g (order f 0)) : ℝ) : EReal) := rfl
  have hne : order f 0 ≠ order f 1 := (order_top2 f).ne.symm
  rw [h0, h1, ← EReal.coe_add, div_coe _ _ (by positivity), div_coe _ _ (by positivity)]
  by_cases e0 : order f 0 = e
  · rw [if_pos e0, if_neg (show ¬ order f 1 = e from fun h => hne (e0.trans h.symm)), if_pos e0.symm, one_mul, zero_mul, add_zero]
  · rw [if_neg e0, if_neg (show ¬ e = order f 0 from fun h => e0 h.symm), zero_mul, zero_add]
    by_cases e1 : order f 1 = e
    · rw [if_pos e1, if_pos e1.symm, one_mul, div_eq_mul_one_div]
    · rw [if_neg e1, if_neg (show ¬ e = order f 1 from fun h => e1 h.symm), zero_mul, EReal.coe_zero]

theorem max_two (f : Fin 8 → EReal) : max (Ideal.ofBits .f32 0xFF800000#32)
    ((Finset.univ : Finset (Fin 2)).fold max (Ideal.ofBits .f32 0xFF800000#32) fun x => f (order f ⟨x.val, by omega⟩)) = f (order f 0) := by
  rw [bits_bot, max_eq_right bot_le]
  refine le_antisymm ((Finset.fold_max_le _).2 ⟨bot_le, fun j _ => ?_⟩) ((Finset.le_fold_max _).2 (Or.inr ⟨0, Finset.mem_univ _, le_rfl⟩))
  by_cases h : order f ⟨j.val, by omega⟩ = order f 0
  · rw [h]
  · exact ((order_top2 f).first _ h).elim le_of_lt fun h => h.1.le

theorem mul_sum_of {ι : Type} (x : EReal) (hx : NonnegFin x) (s : Finset ι) (f : ι → EReal) : x * ∑ i ∈ s, f i = ∑ i ∈ s, x * f i := by
  classical
  obtain ⟨r, hr, rfl⟩ := hx
  induction s using Finset.induction_on with
  | empty => simp
  | insert a s ha ih =>
    rw [Finset.sum_insert ha, Finset.sum_insert ha, EReal.left_distrib_of_nonneg_of_ne_top (by exact_mod_cast hr) (EReal.coe_ne_top r), ih]

/-! ## The experts' sum, tile by tile -/

def ex (s : ℕ) : Fin 8 := ⟨s / 11 % 8, Nat.mod_lt _ (by decide)⟩
def col (s : ℕ) (q : Fin 256) : Fin 2816 := ⟨s % 11 * 256 + q.val, by have := Nat.mod_lt s (show 0 < 11 by decide); omega⟩

/-- What step `s` of a row's 88 adds. -/
def tile (A : Fin 8 → Fin 2816 → EReal) (w : Fin 8 → EReal) (D : Fin 8 → Fin 2816 → EReal) (s : ℕ) : EReal :=
  ∑ q : Fin 256, A (ex s) (col s q) * w (ex s) * D (ex s) (col s q)

theorem sum_tiles (A : Fin 8 → Fin 2816 → EReal) (w : Fin 8 → EReal) (D : Fin 8 → Fin 2816 → EReal) (hw : ∀ e, NonnegFin (w e)) :
    ∑ s ∈ Finset.range 88, tile A w D s = ∑ e, w e * ∑ c, A e c * D e c := by
  rw [Finset.sum_range, Fin.sum_univ_tiles 8 11 rfl]
  refine Finset.sum_congr rfl fun e _ => ?_
  rw [Fin.sum_univ_tiles 11 256 rfl, mul_sum_of _ (hw e)]
  refine Finset.sum_congr rfl fun p _ => ?_
  rw [mul_sum_of _ (hw e)]
  unfold tile
  refine Finset.sum_congr rfl fun q _ => ?_
  have h1 : ex (e.val * 11 + p.val) = e := Fin.ext (by show (e.val * 11 + p.val) / 11 % 8 = e.val; omega)
  have h2 : col (e.val * 11 + p.val) q = ⟨p.val * 256 + q.val, by omega⟩ := Fin.ext (by show (e.val * 11 + p.val) % 11 * 256 + q.val = _; simp only; omega)
  rw [h1, h2, mul_comm (A e _) (w e), mul_assoc]

/-- One row of the routed experts' layer with the residual and the closing norm. -/
def moeRow (x g : Fin 1024 → EReal) (r : Fin 1024 → Fin 8 → EReal) (wg wu : Fin 8 → Fin 1024 → Fin 2816 → EReal)
    (wd : Fin 8 → Fin 2816 → Fin 1024 → EReal) (gf : Fin 1024 → EReal) (j : Fin 1024) : EReal :=
  nrm (fun j => x j + ∑ e, wt (fun e => ∑ k, nrm x g k * r k e) e * ∑ c, act (nrm x g) (wg e) (wu e) c * wd e c j) gf j

/-! ## The scores are finite -/

def Fin' (x : EReal) : Prop := ∃ r : ℝ, x = (r : EReal)

theorem Fin'.mul {x y : EReal} (hx : Fin' x) (hy : Fin' y) : Fin' (x * y) := by
  obtain ⟨a, rfl⟩ := hx; obtain ⟨b, rfl⟩ := hy
  exact ⟨a * b, (EReal.coe_mul a b).symm⟩

theorem Fin'.add {x y : EReal} (hx : Fin' x) (hy : Fin' y) : Fin' (x + y) := by
  obtain ⟨a, rfl⟩ := hx; obtain ⟨b, rfl⟩ := hy
  exact ⟨a + b, (EReal.coe_add a b).symm⟩

theorem Fin'.sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih

theorem nonneg_sum {ι : Type} (s : Finset ι) (f : ι → EReal) (h : ∀ i, NonnegFin (f i)) : NonnegFin (∑ i ∈ s, f i) := by
  classical
  induction s using Finset.induction_on with
  | empty => exact ⟨0, le_rfl, by simp⟩
  | insert a s ha ih =>
    rw [Finset.sum_insert ha]
    obtain ⟨x, hx, ex⟩ := h a; obtain ⟨y, hy, ey⟩ := ih
    exact ⟨x + y, add_nonneg hx hy, by rw [ex, ey, EReal.coe_add]⟩

theorem bits_1024 : Ideal.ofBits .f32 0x44800000#32 = ((1024 : ℝ) : EReal) := by
  simp [Ideal.ofBits, Ideal.ieee, -EReal.coe_mul]; norm_num

theorem bits_eps : Ideal.ofBits .f32 0x358637BD#32 = (((8796093 : ℝ) * (2 : ℝ) ^ (-43 : ℤ) : ℝ) : EReal) := by
  simp [Ideal.ofBits, Ideal.ieee, -EReal.coe_mul]

theorem rsqrt_fin (s : EReal) (hs : NonnegFin s) : Fin' (Ideal.rsqrt (Ideal.div s (Ideal.ofBits .f32 0x44800000#32) + Ideal.ofBits .f32 0x358637BD#32)) := by
  obtain ⟨r, hr, rfl⟩ := hs
  have e1 : ∃ d : ℝ, 0 < d ∧ Ideal.ofBits .f32 0x44800000#32 = (d : EReal) := ⟨_, by norm_num, bits_1024⟩
  have e2 : ∃ d : ℝ, 0 < d ∧ Ideal.ofBits .f32 0x358637BD#32 = (d : EReal) := ⟨_, by positivity, bits_eps⟩
  obtain ⟨d, hd, e1⟩ := e1
  obtain ⟨p, hp, e2⟩ := e2
  rw [e1, e2, div_coe r d hd.ne', ← EReal.coe_add]
  have : 0 < r / d + p := by positivity
  rw [Ideal.rsqrt_coe, if_neg this.le.not_gt, if_neg this.ne']
  exact ⟨_, rfl⟩

theorem nrm_fin (x g : Fin 1024 → EReal) (hx : ∀ k, Fin' (x k)) (hg : ∀ k, Fin' (g k)) (k : Fin 1024) : Fin' (nrm x g k) := by
  unfold nrm
  refine ((hx k).mul (rsqrt_fin _ (nonneg_sum _ _ fun j => ?_))).mul (hg k)
  obtain ⟨a, ha⟩ := hx j
  exact ⟨a * a, mul_self_nonneg a, by rw [ha, EReal.coe_mul]⟩

theorem score_fin (x g : Fin 1024 → EReal) (r : Fin 1024 → Fin 8 → EReal) (hx : ∀ k, Fin' (x k)) (hg : ∀ k, Fin' (g k)) (hr : ∀ k e, Fin' (r k e)) (e : Fin 8) :
    Fin' (∑ k, nrm x g k * r k e) := Fin'.sum _ _ fun k => (nrm_fin x g hx hg k).mul (hr k e)

end Cert.MoePure
end
-- ==== Proof.MoeFin.lean ====
module

public import proofs.«01_k».proof.Defs
public import proofs.«01_k».proof.Proof.MoePure
public import Idealize.ShloMosaic.Lib.Pointwise
public import Idealize.ShloMosaic.Lib.Claim

@[expose] public section

set_option maxRecDepth 16384

noncomputable section

namespace Cert.Pre_finite_moe

open Idealize.ShloMosaic Cert.MoePure

theorem facts : Facts where
  bcast_S1024_S1x1024_1 := by decide
  transposes_S1024x8_S8x1024_1_0 := by decide
  concatenates_S65536x1024_S1x1024_S8x1024_S65545x1024_d0 := by decide
  bcast_S_S65545x1024 := by decide

attribute [local instance] facts

theorem bits_top : Ideal.ofBits .f32 2139095040#32 = ⊤ := by
  simp [Ideal.ofBits, Ideal.ieee]

/-- What the precondition asks of one entry makes it a real number. -/
theorem fin_of (a : EReal) (h : BitVec.ofBool (decide ((FloatOps.absf (F := Ideal) (φ := .f32) a : EReal) < Ideal.ofBits .f32 2139095040#32)) = 1#1) : Fin' a := by
  rw [bits_top] at h
  have h : (FloatOps.absf (F := Ideal) (φ := .f32) a : EReal) < ⊤ := by
    by_contra n
    rw [decide_eq_false n] at h
    exact absurd h (by decide)
  have hm : max a (-a) < ⊤ := h
  induction a with
  | bot => simp at hm
  | top => simp at hm
  | coe r => exact ⟨r, rfl⟩

variable (x0 : FVec Ideal S65536x1024 .f32) (x1 : FVec Ideal S1024 .f32) (x2 : FVec Ideal S1024x8 .f32)
    (x3 : FVec Ideal S8x1024x2816 .f32) (x4 : FVec Ideal S8x1024x2816 .f32) (x5 : FVec Ideal S8x2816x1024 .f32) (x6 : FVec Ideal S1024 .f32)
    (h : fn (F := Ideal) x0 x1 x2 x3 x4 x5 x6 = fun _ => 1#1)
include h

theorem at_x (r : Fin 65536) (k : Fin 1024) : Fin' (x0 (ix2 r k)) := by
  have e := congrFun h (ix2 ⟨r.val, by omega⟩ k)
  refine fin_of _ ?_
  revert e
  pointwise [fn]
  exact id

theorem at_g (k : Fin 1024) : Fin' (x1 (ix1 k)) := by
  have e := congrFun h (ix2 ⟨65536, by omega⟩ k)
  refine fin_of _ ?_
  revert e
  pointwise [fn]
  exact id

theorem at_r (k : Fin 1024) (l : Fin 8) : Fin' (x2 (ix2 k l)) := by
  have e := congrFun h (ix2 ⟨65537 + l.val, by omega⟩ k)
  refine fin_of _ ?_
  revert e
  have n1 : ¬ (65537 + l.val < 65536) := by omega
  have n2 : ¬ (65537 + l.val - 65536 < 1) := by omega
  have n3 : 65537 + l.val - 65536 - 1 = l.val := by omega
  pointwise [fn]
  simp only [n1, n2, n3, dite_false, if_false]
  exact id

end Cert.Pre_finite_moe

end
-- ==== Proof.MoePay.lean ====
module

public import proofs.«01_k».proof.Proof.MoePure
public import proofs.«01_k».proof.Proof.Gen.MoeIdeal.Frame
public import Idealize.ShloMosaic.Lib.Pipeline.ValueKit
public import Idealize.ShloMosaic.Lib.Claim

@[expose] public section

set_option maxRecDepth 16384

noncomputable section

namespace Cert.MoeIdeal.Final

open Cert.MoeIdeal Cert.MoeIdeal.Gen Idealize.ShloMosaic Idealize.ShloMosaic.TcCoe Idealize.SL.Sem
open Idealize.ShloMosaic.Pipeline (Dat)
open Cert.Rows Cert.MoePure

theorem hb_apply (x : FVec Ideal S1024x1024 .f32) (g : FVec Ideal S1x1024 .f32) (p k : Fin 1024) :
    k0_pay4 (F := Ideal) x g (ix2 p k) = nrm (fun k => x (ix2 p k)) (fun k => g (ix2 0 k)) k := by
  pointwise [k0_pay4, k0_pay3, nrm]

theorem zero_apply (p k : Fin 1024) : k0_pay5 (F := Ideal) (ix2 p k) = 0 := by
  pointwise [k0_pay5]

theorem slt_lane (l : Fin 128) : IntOp.cmpi .slt (BitVec.ofNat 32 l.val) 8#32 = if l.val < 8 then 1#1 else 0#1 := by
  revert l; decide +kernel

theorem score_apply (x : FVec Ideal S1024x1024 .f32) (g : FVec Ideal S1x1024 .f32) (r : FVec Ideal S1024x128 .f32) (R : Fin 1024 → Fin 8 → EReal)
    (hr : ∀ (k : Fin 1024) (l : Fin 128), r (ix2 k l) = if h : l.val < 8 then R k ⟨l.val, h⟩ else 0) (p : Fin 1024) (l : Fin 128) :
    k0_pay6 (F := Ideal) x g r (ix2 p l) = mask (fun e => ∑ k, nrm (fun k => x (ix2 p k)) (fun k => g (ix2 0 k)) k * R k e) l := by
  have e : k0_pay6 (F := Ideal) x g r (ix2 p l) = Scalar.select (IntOp.cmpi .slt (BitVec.ofNat 32 l.val) 8#32)
      (∑ k, nrm (fun k => x (ix2 p k)) (fun k => g (ix2 0 k)) k * r (ix2 k l)) (Ideal.ofBits .f32 0xFF800000#32) := by
    pointwise [k0_pay6, k0_pay3, nrm]
  rw [e, slt_lane, bits_bot]
  unfold mask
  by_cases h : l.val < 8
  · rw [if_pos h, dif_pos h]
    have e : ∀ k : Fin 1024, r (ix2 k l) = R k ⟨l.val, h⟩ := fun k => (hr k l).trans (dif_pos h)
    simp only [e]
    rfl
  · rw [if_neg h, dif_neg h]
    rfl

theorem comb_apply (x : FVec Ideal S1024x1024 .f32) (g : FVec Ideal S1x1024 .f32) (r : FVec Ideal S1024x128 .f32) (p : Fin 1024) (l : Fin 128) :
    k0_pay9 (F := Ideal) (iota .tc S1024x128 32 [1] iota_S1024x128_d1_w32) (k0_pay6 (F := Ideal) x g r) (k0_pay7 (F := Ideal) x g r) (k0_pay8 (F := Ideal) x g r) (ix2 p l)
      = laneWt (fun l => k0_pay6 (F := Ideal) x g r (ix2 p l)) l := by
  have e7 : k0_pay7 (F := Ideal) x g r (ix2 p 0) = kmax (fun l => k0_pay6 (F := Ideal) x g r (ix2 p l)) := by
    have : k0_pay7 (F := Ideal) x g r (ix2 p 0) = Finset.fold max (Ideal.ofBits .f32 0xFF800000#32) (fun l => k0_pay6 (F := Ideal) x g r (ix2 p l)) Finset.univ := by
      pointwise [k0_pay7]
    rw [this, bits_bot]
    rfl
  have e8 : k0_pay8 (F := Ideal) x g r (ix1 p) = kidx (fun l => k0_pay6 (F := Ideal) x g r (ix2 p l)) (kmax (fun l => k0_pay6 (F := Ideal) x g r (ix2 p l))) := by
    rw [← e7]
    unfold kidx
    pointwise [k0_pay8]
  generalize k0_pay6 (F := Ideal) x g r = L at *
  generalize k0_pay7 (F := Ideal) x g r = M at *
  generalize k0_pay8 (F := Ideal) x g r = I at *
  unfold laneWt
  rw [← e8, ← e7]
  dsimp only
  unfold kmax kidx
  rw [← bits_bot]
  pointwise [k0_pay9]

theorem pick_lane (f : Fin 128 → EReal) (e : Fin 8) :
    ∑ l : Fin 128, Scalar.select (IntOp.cmpi .eq (BitVec.ofNat 32 l.val) (BitVec.ofNat 32 e.val)) (f l) 0 = f (lane e) := by
  have : ∀ l : Fin 128, Scalar.select (IntOp.cmpi .eq (BitVec.ofNat 32 l.val) (BitVec.ofNat 32 e.val)) (f l) (0 : EReal) = if l = lane e then f l else 0 :=
    fun l => select_lane l (lane e) _ _
  simp only [this]
  rw [Finset.sum_ite_eq' Finset.univ (lane e) f, if_pos (Finset.mem_univ _)]

theorem acc_apply (i : grid0.Coords) (hb : FVec Ideal S1024x1024 .bf16) (wg wu : FVec Ideal S1x1024x256 .bf16) (comb : FVec Ideal S1024x128 .f32)
    (acc : FVec Ideal S1024x1024 .f32) (wd : FVec Ideal S1x256x1024 .bf16) (p j : Fin 1024) (e : Fin 8) (hi : (i 1).val = e.val) :
    k0_pay1 (F := Ideal) (k0_pay10 (F := Ideal) i hb wg wu comb acc wd) (ix2 p j) = acc (ix2 p j)
      + ∑ q : Fin 256, (∑ k, hb (ix2 p k) * wg (ix3 0 k q)) * Ideal.logistic (∑ k, hb (ix2 p k) * wg (ix3 0 k q)) * (∑ k, hb (ix2 p k) * wu (ix3 0 k q))
          * comb (ix2 p (lane e)) * wd (ix3 0 q j) := by
  have E : k0_pay1 (F := Ideal) (k0_pay10 (F := Ideal) i hb wg wu comb acc wd) (ix2 p j) = acc (ix2 p j)
      + ∑ q : Fin 256, (∑ k, hb (ix2 p k) * wg (ix3 0 k q)) * Ideal.logistic (∑ k, hb (ix2 p k) * wg (ix3 0 k q)) * (∑ k, hb (ix2 p k) * wu (ix3 0 k q))
          * (∑ l : Fin 128, Scalar.select (IntOp.cmpi .eq (BitVec.ofNat 32 l.val) (BitVec.ofNat 32 (i 1).val)) (comb (ix2 p l)) 0) * wd (ix3 0 q j) := by
    pointwise [k0_pay1, k0_pay10]
  rw [E, hi, pick_lane (fun l => comb (ix2 p l)) e]

theorem out_apply (x acc : FVec Ideal S1024x1024 .f32) (g : FVec Ideal S1x1024 .f32) (p j : Fin 1024) :
    k0_pay2 (F := Ideal) x acc g (ix2 p j) = nrm (fun j => x (ix2 p j) + acc (ix2 p j)) (fun k => g (ix2 0 k)) j := by
  pointwise [k0_pay2, nrm]

end Cert.MoeIdeal.Final
end
-- ==== Proof.MoeIdx.lean ====
module

public import proofs.«01_k».proof.Proof.Gen.MoeIdeal.Value
public import Idealize.ShloMosaic.Lib.Pipeline.ValueKit
public import Idealize.ShloMosaic.Lib.Claim

@[expose] public section

set_option maxRecDepth 16384

noncomputable section

namespace Cert.MoeIdeal.Final

open Cert.MoeIdeal Cert.MoeIdeal.Gen Idealize.ShloMosaic Idealize.ShloMosaic.TcCoe Idealize.SL.Sem

theorem idx : ∀ t : Fin cfg0.N, win0_0.index t = ![t.val / 88, 0] ∧ win0_1.index t = ![0, 0] ∧ win0_2.index t = ![0, 0]
    ∧ win0_3.index t = ![t.val % 88 / 11, 0, t.val % 11] ∧ win0_4.index t = ![t.val % 88 / 11, 0, t.val % 11]
    ∧ win0_5.index t = ![t.val % 88 / 11, t.val % 11, 0] ∧ win0_6.index t = ![0, 0] ∧ win0_7.index t = ![t.val / 88, 0]
    ∧ (grid0.coords t 1).val = t.val % 88 / 11 :=
  (by decide +kernel : ∀ t : Fin grid0.N, _)

theorem lt_N (t : Fin cfg0.N) : t.val < 5632 := t.isLt

end Cert.MoeIdeal.Final

end
-- ==== Proof.MoeBlocks.lean ====
module

public import proofs.«01_k».proof.Proof.MoePure
public import proofs.«01_k».proof.Proof.MoeIdx
public import Idealize.ShloMosaic.Lib.Pipeline.ValueKit
public import Idealize.ShloMosaic.Lib.Claim

@[expose] public section

set_option maxRecDepth 16384

noncomputable section

namespace Cert.MoeIdeal.Final

open Cert.MoeIdeal Cert.MoeIdeal.Gen Idealize.ShloMosaic Idealize.ShloMosaic.TcCoe Idealize.SL.Sem
open Idealize.ShloMosaic.Pipeline (Dat)
open Cert.Rows Cert.MoePure

variable (m : (ℓ : Loc nD τ sig) → Buf (Elt Ideal) ℓ)

/-- The token that row `p` of a grid point's block is. -/
def tok (n : ℕ) (h : n < 5632) (p : Fin 1024) : Fin 65536 := ⟨n / 88 * 1024 + p.val, by omega⟩

abbrev X0 (c : Dev nD) : FVec Ideal S65536x1024 .f32 := m ((c : Thread nD τ).loc main_arg0)
abbrev X1 (c : Dev nD) : FVec Ideal S1024 .f32 := m ((c : Thread nD τ).loc main_arg1)
abbrev X2 (c : Dev nD) : FVec Ideal S1024x8 .f32 := m ((c : Thread nD τ).loc main_arg2)
abbrev X3 (c : Dev nD) : FVec Ideal S8x1024x2816 .f32 := m ((c : Thread nD τ).loc main_arg3)
abbrev X4 (c : Dev nD) : FVec Ideal S8x1024x2816 .f32 := m ((c : Thread nD τ).loc main_arg4)
abbrev X5 (c : Dev nD) : FVec Ideal S8x2816x1024 .f32 := m ((c : Thread nD τ).loc main_arg5)
abbrev X6 (c : Dev nD) : FVec Ideal S1024 .f32 := m ((c : Thread nD τ).loc main_arg6)

abbrev B0 (c : Dev nD) (t : Fin cfg0.N) : FVec Ideal S1024x1024 .f32 := iblk m c 0 t
abbrev B1 (c : Dev nD) (t : Fin cfg0.N) : FVec Ideal S1x1024 .f32 := iblk m c 1 t
abbrev B2 (c : Dev nD) (t : Fin cfg0.N) : FVec Ideal S1024x128 .f32 := iblk m c 2 t
abbrev B3 (c : Dev nD) (t : Fin cfg0.N) : FVec Ideal S1x1024x256 .bf16 := iblk m c 3 t
abbrev B4 (c : Dev nD) (t : Fin cfg0.N) : FVec Ideal S1x1024x256 .bf16 := iblk m c 4 t
abbrev B5 (c : Dev nD) (t : Fin cfg0.N) : FVec Ideal S1x256x1024 .bf16 := iblk m c 5 t
abbrev B6 (c : Dev nD) (t : Fin cfg0.N) : FVec Ideal S1x1024 .f32 := iblk m c 6 t

theorem blk0 (c : Dev nD) (t : Fin cfg0.N) (p : Fin 1024) (k : Fin 1024) :
    B0 m c t (ix2 p k) = X0 m c (ix2 (tok t.val (lt_N t) p) k) := by
  blk_ext [iblk, V, idx t, tok]

theorem V1 (c : Dev nD) : V m c main_v1 = broadcastInDim S1x1024 ![1] bcast_S1024_S1x1024_1 (X1 m c) := by
  unfold V
  simp only [hostOps0, hostOps0_1, hostOps0_2, List.flatten_cons, List.flatten_nil, List.append_nil, List.cons_append, List.nil_append]
  after_results
  try rfl

theorem V5 (c : Dev nD) : V m c main_v5 = broadcastInDim S1x1024 ![1] bcast_S1024_S1x1024_1 (X6 m c) := by
  unfold V
  simp only [hostOps0, hostOps0_1, hostOps0_2, List.flatten_cons, List.flatten_nil, List.append_nil, List.cons_append, List.nil_append]
  after_results
  try rfl

theorem V0 (c : Dev nD) : V m c main_v0
    = pad S1024x128 ![0, 0] ![0, 120] ![0, 0] (X2 m c) (sitofp (F := Ideal) .f32 (constantI S_ 32 0#32)) pads_S1024x8_S1024x128_000_01200 h_S_ := by
  unfold V
  simp only [hostOps0, hostOps0_1, hostOps0_2, List.flatten_cons, List.flatten_nil, List.append_nil, List.cons_append, List.nil_append]
  after_results
  try rfl

theorem blk1 (c : Dev nD) (t : Fin cfg0.N) (k : Fin 1024) : B1 m c t (ix2 0 k) = X1 m c (ix1 k) := by
  show (V m c main_v1) _ = _
  rw [V1]
  pointwise
  blk_ext [idx t]

theorem blk6 (c : Dev nD) (t : Fin cfg0.N) (k : Fin 1024) : B6 m c t (ix2 0 k) = X6 m c (ix1 k) := by
  show (V m c main_v5) _ = _
  rw [V5]
  pointwise
  blk_ext [idx t]

theorem emb2 (t : Fin cfg0.N) (k : Fin 1024) (l : Fin 128) : ((cfg0.win 2).blk t).view.emb (ix2 k l) = ix2 k l := by
  blk_ext [idx t]

theorem blk2 (c : Dev nD) (t : Fin cfg0.N) (k : Fin 1024) (l : Fin 128) :
    B2 m c t (ix2 k l) = if h : l.val < 8 then X2 m c (ix2 k ⟨l.val, h⟩) else 0 := by
  show (V m c main_v0) (((cfg0.win 2).blk t).view.emb (ix2 k l)) = _
  rw [V0, emb2]
  pointwise
  split
  · rfl
  · show ((((0#32 : BitVec 32).toInt : ℝ)) : EReal) = 0
    simp

theorem blk3 (c : Dev nD) (t : Fin cfg0.N) (k : Fin 1024) (q : Fin 256) :
    B3 m c t (ix3 0 k q) = X3 m c (ix3 (ex (t.val % 88)) k (col (t.val % 88) q)) := by
  blk_simp [iblk, idx t]
  entry_read
  pointwise
  blk_ext [idx t, ex, col]

theorem blk4 (c : Dev nD) (t : Fin cfg0.N) (k : Fin 1024) (q : Fin 256) :
    B4 m c t (ix3 0 k q) = X4 m c (ix3 (ex (t.val % 88)) k (col (t.val % 88) q)) := by
  blk_simp [iblk, idx t]
  entry_read
  pointwise
  blk_ext [idx t, ex, col]

theorem blk5 (c : Dev nD) (t : Fin cfg0.N) (q : Fin 256) (j : Fin 1024) :
    B5 m c t (ix3 0 q j) = X5 m c (ix3 (ex (t.val % 88)) (col (t.val % 88) q) j) := by
  blk_simp [iblk, idx t]
  entry_read
  pointwise
  blk_ext [idx t, ex, col]

end Cert.MoeIdeal.Final

end
-- ==== Proof.MoeStep.lean ====
module

public import proofs.«01_k».proof.Proof.MoeBlocks
public import Idealize.ShloMosaic.Lib.Pipeline.ValueKit
public import Idealize.ShloMosaic.Lib.Claim

@[expose] public section

set_option maxRecDepth 16384

noncomputable section

namespace Cert.MoeIdeal.Final

open Cert.MoeIdeal Cert.MoeIdeal.Gen Idealize.ShloMosaic Idealize.ShloMosaic.TcCoe Idealize.SL.Sem
open Idealize.ShloMosaic.Pipeline (Dat)
open Cert.Rows Cert.MoePure

variable (m : (ℓ : Loc nD τ sig) → Buf (Elt Ideal) ℓ)

theorem rd0 (X : FVec Ideal S1024x1024 .bf16) (h : (Memref.whole cc0_scratch0).IsWhole) :
    View.read (Elt Ideal) (View.whole cc0_scratch0) (h.unread X) = X :=
  Memref.IsWhole.read_unread (Val := Elt Ideal) (m := Memref.whole cc0_scratch0) h X

theorem rd1 (X : FVec Ideal S1024x1024 .f32) (h : (Memref.whole cc0_scratch1).IsWhole) :
    View.read (Elt Ideal) (View.whole cc0_scratch1) (h.unread X) = X :=
  Memref.IsWhole.read_unread (Val := Elt Ideal) (m := Memref.whole cc0_scratch1) h X

theorem rd2 (X : FVec Ideal S1024x128 .f32) (h : (Memref.whole cc0_scratch2).IsWhole) :
    View.read (Elt Ideal) (View.whole cc0_scratch2) (h.unread X) = X :=
  Memref.IsWhole.read_unread (Val := Elt Ideal) (m := Memref.whole cc0_scratch2) h X

/-- The point before. -/
theorem pre_lt (t : Fin cfg0.N) : t.val - 1 < cfg0.N := Nat.lt_of_le_of_lt (Nat.sub_le _ _) t.isLt

theorem hb_A (c : Dev nD) (t : Fin cfg0.N) (h0 : t.val % 88 = 0) (y : S1024x1024.Idx) :
    (outsAt0 m c t.val t.isLt).2.1 y = k0_pay4 (F := Ideal) (B0 m c t) (B1 m c t) y := by
  rw [outsAt0_A m c t h0 (by omega)]; frame_out

theorem acc_A (c : Dev nD) (t : Fin cfg0.N) (h0 : t.val % 88 = 0) (y : S1024x1024.Idx) :
    (outsAt0 m c t.val t.isLt).2.2.1 y = k0_pay1 (F := Ideal) (k0_pay10 (F := Ideal) (grid0.coords t) (k0_pay4 (F := Ideal) (B0 m c t) (B1 m c t)) (B3 m c t) (B4 m c t)
      (k0_pay9 (F := Ideal) (iota .tc S1024x128 32 [1] iota_S1024x128_d1_w32) (k0_pay6 (F := Ideal) (B0 m c t) (B1 m c t) (B2 m c t)) (k0_pay7 (F := Ideal) (B0 m c t) (B1 m c t) (B2 m c t))
        (k0_pay8 (F := Ideal) (B0 m c t) (B1 m c t) (B2 m c t))) (k0_pay5 (F := Ideal)) (B5 m c t)) y := by
  rw [outsAt0_A m c t h0 (by omega)]; frame_out

theorem cmb_A (c : Dev nD) (t : Fin cfg0.N) (h0 : t.val % 88 = 0) (y : S1024x128.Idx) :
    (outsAt0 m c t.val t.isLt).2.2.2 y = k0_pay9 (F := Ideal) (iota .tc S1024x128 32 [1] iota_S1024x128_d1_w32) (k0_pay6 (F := Ideal) (B0 m c t) (B1 m c t) (B2 m c t))
      (k0_pay7 (F := Ideal) (B0 m c t) (B1 m c t) (B2 m c t)) (k0_pay8 (F := Ideal) (B0 m c t) (B1 m c t) (B2 m c t)) y := by
  rw [outsAt0_A m c t h0 (by omega)]; frame_out

theorem hb_N (c : Dev nD) (t : Fin cfg0.N) (h0 : ¬ t.val % 88 = 0) :
    (outsAt0 m c t.val t.isLt).2.1 = (outsAt0 m c (t.val - 1) (pre_lt t)).2.1 := by
  by_cases h1 : t.val % 88 = 87
  · rw [outsAt0_C m c t h0 h1]; dsimp only; unfold sout0_C_0; rfl
  · rw [outsAt0_B m c t h0 h1]; dsimp only; unfold sout0_B_0; rfl

theorem cmb_N (c : Dev nD) (t : Fin cfg0.N) (h0 : ¬ t.val % 88 = 0) :
    (outsAt0 m c t.val t.isLt).2.2.2 = (outsAt0 m c (t.val - 1) (pre_lt t)).2.2.2 := by
  by_cases h1 : t.val % 88 = 87
  · rw [outsAt0_C m c t h0 h1]; dsimp only; unfold sout0_C_2; rfl
  · rw [outsAt0_B m c t h0 h1]; dsimp only; unfold sout0_B_2; rfl

theorem acc_N (c : Dev nD) (t : Fin cfg0.N) (h0 : ¬ t.val % 88 = 0) (y : S1024x1024.Idx) :
    (outsAt0 m c t.val t.isLt).2.2.1 y = k0_pay1 (F := Ideal) (k0_pay10 (F := Ideal) (grid0.coords t) (outsAt0 m c (t.val - 1) (pre_lt t)).2.1 (B3 m c t) (B4 m c t)
      (outsAt0 m c (t.val - 1) (pre_lt t)).2.2.2 (outsAt0 m c (t.val - 1) (pre_lt t)).2.2.1 (B5 m c t)) y := by
  by_cases h1 : t.val % 88 = 87
  · rw [outsAt0_C m c t h0 h1]; frame_out
    rw [rd0, rd1, rd2]
  · rw [outsAt0_B m c t h0 h1]; frame_out
    rw [rd0, rd1, rd2]

theorem out_C (c : Dev nD) (t : Fin cfg0.N) (h1 : t.val % 88 = 87) (y : S1024x1024.Idx) :
    (outsAt0 m c t.val t.isLt).1 y = k0_pay2 (F := Ideal) (B0 m c t) (outsAt0 m c t.val t.isLt).2.2.1 (B6 m c t) y := by
  rw [show (outsAt0 m c t.val t.isLt).2.2.1 = _ from funext (acc_N m c t (by omega))]
  rw [outsAt0_C m c t (by omega) h1]; frame_out
  rw [rd0, rd1, rd2]

end Cert.MoeIdeal.Final
end
-- ==== Proof.MoeRow.lean ====
module

public import proofs.«01_k».proof.Proof.MoePure
public import proofs.«01_k».proof.Proof.Gen.MoeRefIdeal.Read

@[expose] public section

set_option maxRecDepth 16384

noncomputable section

namespace Cert.MoeRefIdeal.Row

open Cert.MoeRefIdeal Idealize.ShloMosaic Idealize.ShloMosaic.TcCoe Idealize.SL.Sem
open Cert.Rows Cert.MoePure

variable (x0 : FVec Ideal S65536x1024 .f32) (x1 : FVec Ideal S1024 .f32) (x2 : FVec Ideal S1024x8 .f32)
  (x3 x4 : FVec Ideal S8x1024x2816 .f32) (x5 : FVec Ideal S8x2816x1024 .f32) (x6 : FVec Ideal S1024 .f32)

abbrev scores (r : Fin 65536) (e : Fin 8) : EReal := ∑ k, nrm (fun k => x0 (ix2 r k)) (fun k => x1 (ix1 k)) k * x2 (ix2 k e)

theorem ref_norm (r : Fin 65536) (k : Fin 1024) :
    Read.val_main_v12 (F := Ideal) x0 x1 (ix2 r k) = nrm (fun k => x0 (ix2 r k)) (fun k => x1 (ix1 k)) k := by
  pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_cst, Read.val_main_cst_0, Read.val_main_cst_1, nrm]

theorem ref_score (r : Fin 65536) (e : Fin 8) :
    Read.val_main_v13 (F := Ideal) x0 x1 x2 (ix2 r e) = scores x0 x1 x2 r e := by
  pointwise [Read.val_main_v13, ref_norm]

theorem ref_value (r : Fin 65536) (k : Fin 2) :
    Read.val_main_values (F := Ideal) x0 x1 x2 (ix2 r k) = scores x0 x1 x2 r (order (scores x0 x1 x2 r) ⟨k.val, by omega⟩) := by
  have e : ∀ j : Fin 8, Shape.Idx.along (s := S65536x8) (ix2 r ⟨k.val, by omega⟩) 1 j = ix2 r j := by
    intro j; funext a; fin_cases a <;> rfl
  have h : ∀ j : Fin 8, Read.val_main_v13 (F := Ideal) x0 x1 x2 (Shape.Idx.along (s := S65536x8) (ix2 r ⟨k.val, by omega⟩) 1 j) = scores x0 x1 x2 r j := by
    intro j; rw [e, ref_score]
  have s : ∀ (q : IVec S65536x8 32) (y : S65536x8.Idx), y = ix2 r ⟨k.val, by omega⟩ → (Host.sort2 S65536x8 1 (fun l r => FloatOps.cmpfTotal (F := Ideal) (φ := .f32) .gt l.1 r.1) (Read.val_main_v13 (F := Ideal) x0 x1 x2) q).1 y
      = scores x0 x1 x2 r (order (scores x0 x1 x2 r) ⟨k.val, by omega⟩) := by
    rintro q y rfl
    unfold Host.sort2
    rw [dif_pos (show 1 < S65536x8.rank by decide)]
    dsimp only
    refine (h _).trans (congrArg _ ?_)
    unfold order
    simp only [← h]
    rfl
  unfold Read.val_main_values Host.topK
  dsimp only [extractStridedSlice]
  refine s _ _ ?_
  funext a
  fin_cases a
  · exact Fin.ext (by show 0 + r.val = r.val; omega)
  · exact Fin.ext (by show 0 + k.val = k.val; omega)

theorem ref_index (r : Fin 65536) (k : Fin 2) :
    Read.val_main_indices (F := Ideal) x0 x1 x2 (ix2 r k) = BitVec.ofNat 32 (order (scores x0 x1 x2 r) ⟨k.val, by omega⟩).val := by
  have e : ∀ j : Fin 8, Shape.Idx.along (s := S65536x8) (ix2 r ⟨k.val, by omega⟩) 1 j = ix2 r j := by
    intro j; funext a; fin_cases a <;> rfl
  have h : ∀ j : Fin 8, Read.val_main_v13 (F := Ideal) x0 x1 x2 (Shape.Idx.along (s := S65536x8) (ix2 r ⟨k.val, by omega⟩) 1 j) = scores x0 x1 x2 r j := by
    intro j; rw [e, ref_score]
  have s : ∀ (q : IVec S65536x8 32) (hq : ∀ j, q (ix2 r j) = BitVec.ofNat 32 j.val) (y : S65536x8.Idx), y = ix2 r ⟨k.val, by omega⟩ →
      (Host.sort2 S65536x8 1 (fun l r => FloatOps.cmpfTotal (F := Ideal) (φ := .f32) .gt l.1 r.1) (Read.val_main_v13 (F := Ideal) x0 x1 x2) q).2 y
      = BitVec.ofNat 32 (order (scores x0 x1 x2 r) ⟨k.val, by omega⟩).val := by
    rintro q hq y rfl
    unfold Host.sort2
    rw [dif_pos (show 1 < S65536x8.rank by decide)]
    dsimp only
    refine (congrArg q (e _)).trans ((hq _).trans (congrArg (fun z : Fin 8 => BitVec.ofNat 32 z.val) ?_))
    unfold order
    simp only [← h]
    rfl
  unfold Read.val_main_indices Host.topK
  dsimp only [extractStridedSlice]
  refine s _ (fun j => rfl) _ ?_
  funext a
  fin_cases a
  · exact Fin.ext (by show 0 + r.val = r.val; omega)
  · exact Fin.ext (by show 0 + k.val = k.val; omega)

theorem ref_max (r : Fin 65536) : Read.val_main_v16 (F := Ideal) x0 x1 x2 (ix1 r) = scores x0 x1 x2 r (order (scores x0 x1 x2 r) 0) := by
  refine Eq.trans ?_ (max_two (scores x0 x1 x2 r))
  pointwise [Read.val_main_v14, Read.val_main_v15, Read.val_main_v16, Read.val_main_cst_2, Read.val_main_cst_3, ref_value]

theorem ref_soft (r : Fin 65536) (k : Fin 2) : Read.val_main_v24 (F := Ideal) x0 x1 x2 (ix2 r k)
    = Ideal.div (Ideal.exp (scores x0 x1 x2 r (order (scores x0 x1 x2 r) ⟨k.val, by omega⟩) - scores x0 x1 x2 r (order (scores x0 x1 x2 r) 0)))
      (∑ x : Fin 2, Ideal.exp (scores x0 x1 x2 r (order (scores x0 x1 x2 r) ⟨x.val, by omega⟩) - scores x0 x1 x2 r (order (scores x0 x1 x2 r) 0))) := by
  pointwise [Read.val_main_v17, Read.val_main_v18, Read.val_main_v19, Read.val_main_v20, Read.val_main_v21, Read.val_main_v22, Read.val_main_v23, Read.val_main_v24, Read.val_main_cst_4, ref_value, ref_max]

theorem ref_comb (r : Fin 65536) (g : Fin 8 → ℝ) (hg : ∀ e, scores x0 x1 x2 r e = (g e : EReal)) (e : Fin 8) :
    Read.val_main_v29 (F := Ideal) x0 x1 x2 (ix2 r e) = wt (scores x0 x1 x2 r) e := by
  refine Eq.trans ?_ (softmax_two _ g hg e)
  pointwise [Read.val_main_v25, Read.val_main_v26, Read.val_main_v27, Read.val_main_v28, Read.val_main_v29, Read.val_main_cst_5, Read.val_main_call0_v0, Read.val_main_call0_v1, Read.val_main_call0_v2, Read.val_main_call0_v3, Read.val_main_call0_v4, ref_index, ref_soft]

theorem ref_sig0 (r : Fin 65536) (c : Fin 2816) :
    Read.val_main_call1_v5 (F := Ideal) x0 x1 x3 (ix2 r c) = Ideal.logistic (Read.val_main_v38 (F := Ideal) x0 x1 x3 (ix2 r c)) := by
  rw [Read.val_main_call1_v5_apply, Read.val_main_call1_v4_apply, Read.val_main_call1_v3_apply, Read.val_main_call1_v2_apply,
    Read.val_main_call1_v1_apply, Read.val_main_call1_v0_apply]
  generalize Read.val_main_v38 (F := Ideal) x0 x1 x3 (ix2 r c) = z
  pointwise [Read.val_main_call1_cst, Read.val_main_call1_cst_0]
  rfl

theorem ref_part0 (r : Fin 65536) (g : Fin 8 → ℝ) (hg : ∀ e, scores x0 x1 x2 r e = (g e : EReal)) (j : Fin 1024) :
    Read.val_main_v44 (F := Ideal) x0 x1 x2 x3 x4 x5 (ix2 r j) = wt (scores x0 x1 x2 r) 0 * ∑ c, act (nrm (fun k => x0 (ix2 r k)) (fun k => x1 (ix1 k)))
      (fun k c => x3 (ix3 0 k c)) (fun k c => x4 (ix3 0 k c)) c * x5 (ix3 0 c j) := by
  rw [← ref_comb x0 x1 x2 r g hg 0]
  pointwise [Read.val_main_v31, Read.val_main_v32, Read.val_main_v33, Read.val_main_v34, Read.val_main_v35, Read.val_main_v36, Read.val_main_v37, Read.val_main_v38, Read.val_main_v39, Read.val_main_v40, Read.val_main_v41, Read.val_main_v42, Read.val_main_v43, Read.val_main_v44, ref_norm, ref_sig0, act]

theorem ref_sig1 (r : Fin 65536) (c : Fin 2816) :
    Read.val_main_call2_v5 (F := Ideal) x0 x1 x3 (ix2 r c) = Ideal.logistic (Read.val_main_v53 (F := Ideal) x0 x1 x3 (ix2 r c)) := by
  rw [Read.val_main_call2_v5_apply, Read.val_main_call2_v4_apply, Read.val_main_call2_v3_apply, Read.val_main_call2_v2_apply,
    Read.val_main_call2_v1_apply, Read.val_main_call2_v0_apply]
  generalize Read.val_main_v53 (F := Ideal) x0 x1 x3 (ix2 r c) = z
  pointwise [Read.val_main_call2_cst, Read.val_main_call2_cst_0]
  rfl

theorem ref_part1 (r : Fin 65536) (g : Fin 8 → ℝ) (hg : ∀ e, scores x0 x1 x2 r e = (g e : EReal)) (j : Fin 1024) :
    Read.val_main_v59 (F := Ideal) x0 x1 x2 x3 x4 x5 (ix2 r j) = wt (scores x0 x1 x2 r) 1 * ∑ c, act (nrm (fun k => x0 (ix2 r k)) (fun k => x1 (ix1 k)))
      (fun k c => x3 (ix3 1 k c)) (fun k c => x4 (ix3 1 k c)) c * x5 (ix3 1 c j) := by
  rw [← ref_comb x0 x1 x2 r g hg 1]
  pointwise [Read.val_main_v46, Read.val_main_v47, Read.val_main_v48, Read.val_main_v49, Read.val_main_v50, Read.val_main_v51, Read.val_main_v52, Read.val_main_v53, Read.val_main_v54, Read.val_main_v55, Read.val_main_v56, Read.val_main_v57, Read.val_main_v58, Read.val_main_v59, ref_norm, ref_sig1, act]

theorem ref_sig2 (r : Fin 65536) (c : Fin 2816) :
    Read.val_main_call3_v5 (F := Ideal) x0 x1 x3 (ix2 r c) = Ideal.logistic (Read.val_main_v68 (F := Ideal) x0 x1 x3 (ix2 r c)) := by
  rw [Read.val_main_call3_v5_apply, Read.val_main_call3_v4_apply, Read.val_main_call3_v3_apply, Read.val_main_call3_v2_apply,
    Read.val_main_call3_v1_apply, Read.val_main_call3_v0_apply]
  generalize Read.val_main_v68 (F := Ideal) x0 x1 x3 (ix2 r c) = z
  pointwise [Read.val_main_call3_cst, Read.val_main_call3_cst_0]
  rfl

theorem ref_part2 (r : Fin 65536) (g : Fin 8 → ℝ) (hg : ∀ e, scores x0 x1 x2 r e = (g e : EReal)) (j : Fin 1024) :
    Read.val_main_v74 (F := Ideal) x0 x1 x2 x3 x4 x5 (ix2 r j) = wt (scores x0 x1 x2 r) 2 * ∑ c, act (nrm (fun k => x0 (ix2 r k)) (fun k => x1 (ix1 k)))
      (fun k c => x3 (ix3 2 k c)) (fun k c => x4 (ix3 2 k c)) c * x5 (ix3 2 c j) := by
  rw [← ref_comb x0 x1 x2 r g hg 2]
  pointwise [Read.val_main_v61, Read.val_main_v62, Read.val_main_v63, Read.val_main_v64, Read.val_main_v65, Read.val_main_v66, Read.val_main_v67, Read.val_main_v68, Read.val_main_v69, Read.val_main_v70, Read.val_main_v71, Read.val_main_v72, Read.val_main_v73, Read.val_main_v74, ref_norm, ref_sig2, act]

theorem ref_sig3 (r : Fin 65536) (c : Fin 2816) :
    Read.val_main_call4_v5 (F := Ideal) x0 x1 x3 (ix2 r c) = Ideal.logistic (Read.val_main_v83 (F := Ideal) x0 x1 x3 (ix2 r c)) := by
  rw [Read.val_main_call4_v5_apply, Read.val_main_call4_v4_apply, Read.val_main_call4_v3_apply, Read.val_main_call4_v2_apply,
    Read.val_main_call4_v1_apply, Read.val_main_call4_v0_apply]
  generalize Read.val_main_v83 (F := Ideal) x0 x1 x3 (ix2 r c) = z
  pointwise [Read.val_main_call4_cst, Read.val_main_call4_cst_0]
  rfl

theorem ref_part3 (r : Fin 65536) (g : Fin 8 → ℝ) (hg : ∀ e, scores x0 x1 x2 r e = (g e : EReal)) (j : Fin 1024) :
    Read.val_main_v89 (F := Ideal) x0 x1 x2 x3 x4 x5 (ix2 r j) = wt (scores x0 x1 x2 r) 3 * ∑ c, act (nrm (fun k => x0 (ix2 r k)) (fun k => x1 (ix1 k)))
      (fun k c => x3 (ix3 3 k c)) (fun k c => x4 (ix3 3 k c)) c * x5 (ix3 3 c j) := by
  rw [← ref_comb x0 x1 x2 r g hg 3]
  pointwise [Read.val_main_v76, Read.val_main_v77, Read.val_main_v78, Read.val_main_v79, Read.val_main_v80, Read.val_main_v81, Read.val_main_v82, Read.val_main_v83, Read.val_main_v84, Read.val_main_v85, Read.val_main_v86, Read.val_main_v87, Read.val_main_v88, Read.val_main_v89, ref_norm, ref_sig3, act]

theorem ref_sig4 (r : Fin 65536) (c : Fin 2816) :
    Read.val_main_call5_v5 (F := Ideal) x0 x1 x3 (ix2 r c) = Ideal.logistic (Read.val_main_v98 (F := Ideal) x0 x1 x3 (ix2 r c)) := by
  rw [Read.val_main_call5_v5_apply, Read.val_main_call5_v4_apply, Read.val_main_call5_v3_apply, Read.val_main_call5_v2_apply,
    Read.val_main_call5_v1_apply, Read.val_main_call5_v0_apply]
  generalize Read.val_main_v98 (F := Ideal) x0 x1 x3 (ix2 r c) = z
  pointwise [Read.val_main_call5_cst, Read.val_main_call5_cst_0]
  rfl

theorem ref_part4 (r : Fin 65536) (g : Fin 8 → ℝ) (hg : ∀ e, scores x0 x1 x2 r e = (g e : EReal)) (j : Fin 1024) :
    Read.val_main_v104 (F := Ideal) x0 x1 x2 x3 x4 x5 (ix2 r j) = wt (scores x0 x1 x2 r) 4 * ∑ c, act (nrm (fun k => x0 (ix2 r k)) (fun k => x1 (ix1 k)))
      (fun k c => x3 (ix3 4 k c)) (fun k c => x4 (ix3 4 k c)) c * x5 (ix3 4 c j) := by
  rw [← ref_comb x0 x1 x2 r g hg 4]
  pointwise [Read.val_main_v91, Read.val_main_v92, Read.val_main_v93, Read.val_main_v94, Read.val_main_v95, Read.val_main_v96, Read.val_main_v97, Read.val_main_v98, Read.val_main_v99, Read.val_main_v100, Read.val_main_v101, Read.val_main_v102, Read.val_main_v103, Read.val_main_v104, ref_norm, ref_sig4, act]

theorem ref_sig5 (r : Fin 65536) (c : Fin 2816) :
    Read.val_main_call6_v5 (F := Ideal) x0 x1 x3 (ix2 r c) = Ideal.logistic (Read.val_main_v113 (F := Ideal) x0 x1 x3 (ix2 r c)) := by
  rw [Read.val_main_call6_v5_apply, Read.val_main_call6_v4_apply, Read.val_main_call6_v3_apply, Read.val_main_call6_v2_apply,
    Read.val_main_call6_v1_apply, Read.val_main_call6_v0_apply]
  generalize Read.val_main_v113 (F := Ideal) x0 x1 x3 (ix2 r c) = z
  pointwise [Read.val_main_call6_cst, Read.val_main_call6_cst_0]
  rfl

theorem ref_part5 (r : Fin 65536) (g : Fin 8 → ℝ) (hg : ∀ e, scores x0 x1 x2 r e = (g e : EReal)) (j : Fin 1024) :
    Read.val_main_v119 (F := Ideal) x0 x1 x2 x3 x4 x5 (ix2 r j) = wt (scores x0 x1 x2 r) 5 * ∑ c, act (nrm (fun k => x0 (ix2 r k)) (fun k => x1 (ix1 k)))
      (fun k c => x3 (ix3 5 k c)) (fun k c => x4 (ix3 5 k c)) c * x5 (ix3 5 c j) := by
  rw [← ref_comb x0 x1 x2 r g hg 5]
  pointwise [Read.val_main_v106, Read.val_main_v107, Read.val_main_v108, Read.val_main_v109, Read.val_main_v110, Read.val_main_v111, Read.val_main_v112, Read.val_main_v113, Read.val_main_v114, Read.val_main_v115, Read.val_main_v116, Read.val_main_v117, Read.val_main_v118, Read.val_main_v119, ref_norm, ref_sig5, act]

theorem ref_sig6 (r : Fin 65536) (c : Fin 2816) :
    Read.val_main_call7_v5 (F := Ideal) x0 x1 x3 (ix2 r c) = Ideal.logistic (Read.val_main_v128 (F := Ideal) x0 x1 x3 (ix2 r c)) := by
  rw [Read.val_main_call7_v5_apply, Read.val_main_call7_v4_apply, Read.val_main_call7_v3_apply, Read.val_main_call7_v2_apply,
    Read.val_main_call7_v1_apply, Read.val_main_call7_v0_apply]
  generalize Read.val_main_v128 (F := Ideal) x0 x1 x3 (ix2 r c) = z
  pointwise [Read.val_main_call7_cst, Read.val_main_call7_cst_0]
  rfl

theorem ref_part6 (r : Fin 65536) (g : Fin 8 → ℝ) (hg : ∀ e, scores x0 x1 x2 r e = (g e : EReal)) (j : Fin 1024) :
    Read.val_main_v134 (F := Ideal) x0 x1 x2 x3 x4 x5 (ix2 r j) = wt (scores x0 x1 x2 r) 6 * ∑ c, act (nrm (fun k => x0 (ix2 r k)) (fun k => x1 (ix1 k)))
      (fun k c => x3 (ix3 6 k c)) (fun k c => x4 (ix3 6 k c)) c * x5 (ix3 6 c j) := by
  rw [← ref_comb x0 x1 x2 r g hg 6]
  pointwise [Read.val_main_v121, Read.val_main_v122, Read.val_main_v123, Read.val_main_v124, Read.val_main_v125, Read.val_main_v126, Read.val_main_v127, Read.val_main_v128, Read.val_main_v129, Read.val_main_v130, Read.val_main_v131, Read.val_main_v132, Read.val_main_v133, Read.val_main_v134, ref_norm, ref_sig6, act]

theorem ref_sig7 (r : Fin 65536) (c : Fin 2816) :
    Read.val_main_call8_v5 (F := Ideal) x0 x1 x3 (ix2 r c) = Ideal.logistic (Read.val_main_v143 (F := Ideal) x0 x1 x3 (ix2 r c)) := by
  rw [Read.val_main_call8_v5_apply, Read.val_main_call8_v4_apply, Read.val_main_call8_v3_apply, Read.val_main_call8_v2_apply,
    Read.val_main_call8_v1_apply, Read.val_main_call8_v0_apply]
  generalize Read.val_main_v143 (F := Ideal) x0 x1 x3 (ix2 r c) = z
  pointwise [Read.val_main_call8_cst, Read.val_main_call8_cst_0]
  rfl

theorem ref_part7 (r : Fin 65536) (g : Fin 8 → ℝ) (hg : ∀ e, scores x0 x1 x2 r e = (g e : EReal)) (j : Fin 1024) :
    Read.val_main_v149 (F := Ideal) x0 x1 x2 x3 x4 x5 (ix2 r j) = wt (scores x0 x1 x2 r) 7 * ∑ c, act (nrm (fun k => x0 (ix2 r k)) (fun k => x1 (ix1 k)))
      (fun k c => x3 (ix3 7 k c)) (fun k c => x4 (ix3 7 k c)) c * x5 (ix3 7 c j) := by
  rw [← ref_comb x0 x1 x2 r g hg 7]
  pointwise [Read.val_main_v136, Read.val_main_v137, Read.val_main_v138, Read.val_main_v139, Read.val_main_v140, Read.val_main_v141, Read.val_main_v142, Read.val_main_v143, Read.val_main_v144, Read.val_main_v145, Read.val_main_v146, Read.val_main_v147, Read.val_main_v148, Read.val_main_v149, ref_norm, ref_sig7, act]

theorem ref_apply (r : Fin 65536) (g : Fin 8 → ℝ) (hg : ∀ e, scores x0 x1 x2 r e = (g e : EReal)) (j : Fin 1024) :
    Read.val_main_v164 (F := Ideal) x0 x1 x2 x3 x4 x5 x6 (ix2 r j)
      = moeRow (fun k => x0 (ix2 r k)) (fun k => x1 (ix1 k)) (fun k e => x2 (ix2 k e)) (fun e k c => x3 (ix3 e k c)) (fun e k c => x4 (ix3 e k c))
          (fun e c j => x5 (ix3 e c j)) (fun k => x6 (ix1 k)) j := by
  have h : ∀ j : Fin 1024, Read.val_main_v151 (F := Ideal) x0 x1 x2 x3 x4 x5 (ix2 r j)
      = x0 (ix2 r j) + ∑ e, wt (scores x0 x1 x2 r) e * ∑ c, act (nrm (fun k => x0 (ix2 r k)) (fun k => x1 (ix1 k)))
        (fun k c => x3 (ix3 e k c)) (fun k c => x4 (ix3 e k c)) c * x5 (ix3 e c j) := by
    intro j
    rw [Fin.sum_univ_eight]
    pointwise [Read.val_main_v45, Read.val_main_v60, Read.val_main_v75, Read.val_main_v90, Read.val_main_v105, Read.val_main_v120, Read.val_main_v135, Read.val_main_v150, Read.val_main_v151, Read.val_main_v30, Read.val_main_cst_6, ref_part0 x0 x1 x2 x3 x4 x5 r g hg, ref_part1 x0 x1 x2 x3 x4 x5 r g hg, ref_part2 x0 x1 x2 x3 x4 x5 r g hg, ref_part3 x0 x1 x2 x3 x4 x5 r g hg, ref_part4 x0 x1 x2 x3 x4 x5 r g hg, ref_part5 x0 x1 x2 x3 x4 x5 r g hg, ref_part6 x0 x1 x2 x3 x4 x5 r g hg, ref_part7 x0 x1 x2 x3 x4 x5 r g hg]
  have key : Read.val_main_v164 (F := Ideal) x0 x1 x2 x3 x4 x5 x6 (ix2 r j)
      = nrm (fun j => Read.val_main_v151 (F := Ideal) x0 x1 x2 x3 x4 x5 (ix2 r j)) (fun k => x6 (ix1 k)) j := by
    pointwise [Read.val_main_v152, Read.val_main_v153, Read.val_main_v154, Read.val_main_v155, Read.val_main_v156, Read.val_main_v157, Read.val_main_v158, Read.val_main_v159, Read.val_main_v160, Read.val_main_v161, Read.val_main_v162, Read.val_main_v163, Read.val_main_v164, Read.val_main_cst_7, Read.val_main_cst_8, Read.val_main_cst_9, nrm]
  rw [key]
  unfold moeRow
  exact congrArg (fun z : Fin 1024 → EReal => nrm z (fun k => x6 (ix1 k)) j) (funext h)

end Cert.MoeRefIdeal.Row
end
-- ==== Proof.MoeValue.lean ====
module

public import proofs.«01_k».proof.Proof.MoePay
public import proofs.«01_k».proof.Proof.MoeStep
public import proofs.«01_k».proof.Proof.MoeRow
public import Idealize.ShloMosaic.Lib.Pipeline.ValueKit
public import Idealize.ShloMosaic.Lib.Claim

@[expose] public section

set_option maxRecDepth 16384

noncomputable section

namespace Cert.MoeIdeal.Final

open Cert.MoeIdeal Cert.MoeIdeal.Gen Idealize.ShloMosaic Idealize.ShloMosaic.TcCoe Idealize.SL.Sem
open Idealize.ShloMosaic.Pipeline (Dat)
open Cert.Rows Cert.MoePure

variable (m : (ℓ : Loc nD τ sig) → Buf (Elt Ideal) ℓ)

/-- A token's normed row. -/
def H (c : Dev nD) (r : Fin 65536) (k : Fin 1024) : EReal := nrm (fun k => X0 m c (ix2 r k)) (fun k => X1 m c (ix1 k)) k
/-- A token's eight scores. -/
def S (c : Dev nD) (r : Fin 65536) (e : Fin 8) : EReal := ∑ k, nrm (fun k => X0 m c (ix2 r k)) (fun k => X1 m c (ix1 k)) k * X2 m c (ix2 k e)
/-- A token's gated hidden row in each expert. -/
def A (c : Dev nD) (r : Fin 65536) (e : Fin 8) (l : Fin 2816) : EReal := act (H m c r) (fun k l => X3 m c (ix3 e k l)) (fun k l => X4 m c (ix3 e k l)) l
def D (c : Dev nD) (j : Fin 1024) (e : Fin 8) (l : Fin 2816) : EReal := X5 m c (ix3 e l j)

/-- What the three carried buffers hold after point `n`. -/
structure Inv (c : Dev nD) (n : ℕ) (h : n < cfg0.N) : Prop where
  hb : ∀ p k : Fin 1024, (outsAt0 m c n h).2.1 (ix2 p k) = H m c (tok n h p) k
  cmb : ∀ (p : Fin 1024) (e : Fin 8), (outsAt0 m c n h).2.2.2 (ix2 p (lane e)) = wt (S m c (tok n h p)) e
  acc : ∀ p j : Fin 1024, (outsAt0 m c n h).2.2.1 (ix2 p j)
    = ∑ s ∈ Finset.range (n % 88 + 1), tile (A m c (tok n h p)) (wt (S m c (tok n h p))) (D m c j) s

theorem step (c : Dev nD) (t : Fin cfg0.N) (hb : FVec Ideal S1024x1024 .bf16) (comb : FVec Ideal S1024x128 .f32) (acc : FVec Ideal S1024x1024 .f32)
    (r : Fin 1024 → Fin 65536) (h1 : ∀ p k : Fin 1024, hb (ix2 p k) = H m c (r p) k)
    (h2 : ∀ (p : Fin 1024) (e : Fin 8), comb (ix2 p (lane e)) = wt (S m c (r p)) e) (p j : Fin 1024) :
    k0_pay1 (F := Ideal) (k0_pay10 (F := Ideal) (grid0.coords t) hb (B3 m c t) (B4 m c t) comb acc (B5 m c t)) (ix2 p j)
      = acc (ix2 p j) + tile (A m c (r p)) (wt (S m c (r p))) (D m c j) (t.val % 88) := by
  have hi : (grid0.coords t 1).val = (ex (t.val % 88)).val := by
    have e := (idx t).2.2.2.2.2.2.2.2
    rw [e]
    show t.val % 88 / 11 = t.val % 88 / 11 % 8
    omega
  rw [acc_apply _ _ _ _ _ _ _ p j (ex (t.val % 88)) hi]
  unfold tile A act D
  simp only [h1, h2, blk3, blk4, blk5]

theorem inv_A (c : Dev nD) (hf : ∀ r e, Fin' (S m c r e)) (t : Fin cfg0.N) (h0 : t.val % 88 = 0) : Inv m c t.val t.isLt := by
  have e0 : ∀ p : Fin 1024, (fun k => B0 m c t (ix2 p k)) = fun k => X0 m c (ix2 (tok t.val t.isLt p) k) := fun p => funext fun k => blk0 m c t p k
  have e1 : (fun k => B1 m c t (ix2 0 k)) = fun k => X1 m c (ix1 k) := funext fun k => blk1 m c t k
  have hb : ∀ p k : Fin 1024, k0_pay4 (F := Ideal) (B0 m c t) (B1 m c t) (ix2 p k) = H m c (tok t.val t.isLt p) k := by
    intro p k
    rw [hb_apply, e0, e1]
    rfl
  have sc : ∀ p : Fin 1024, (fun l => k0_pay6 (F := Ideal) (B0 m c t) (B1 m c t) (B2 m c t) (ix2 p l)) = mask (S m c (tok t.val t.isLt p)) := by
    intro p
    funext l
    rw [score_apply _ _ _ (fun k e => X2 m c (ix2 k e)) (blk2 m c t), e0, e1]
    rfl
  have cm : ∀ (p : Fin 1024) (e : Fin 8), k0_pay9 (F := Ideal) (iota .tc S1024x128 32 [1] iota_S1024x128_d1_w32) (k0_pay6 (F := Ideal) (B0 m c t) (B1 m c t) (B2 m c t))
      (k0_pay7 (F := Ideal) (B0 m c t) (B1 m c t) (B2 m c t)) (k0_pay8 (F := Ideal) (B0 m c t) (B1 m c t) (B2 m c t)) (ix2 p (lane e)) = wt (S m c (tok t.val t.isLt p)) e := by
    intro p e
    rw [comb_apply, sc]
    refine laneWt_eq _ (fun e => ?_) e
    obtain ⟨x, hx⟩ := hf (tok t.val t.isLt p) e
    rw [hx]
    exact EReal.coe_ne_bot x
  refine ⟨fun p k => (hb_A m c t h0 _).trans (hb p k), fun p e => (cmb_A m c t h0 _).trans (cm p e), fun p j => (acc_A m c t h0 _).trans ?_⟩
  rw [step m c t _ _ _ (tok t.val t.isLt) hb cm p j, zero_apply, h0]
  simp

theorem inv_N (c : Dev nD) (t : Fin cfg0.N) (h0 : ¬ t.val % 88 = 0) (ih : Inv m c (t.val - 1) (pre_lt t)) : Inv m c t.val t.isLt := by
  have ht : tok (t.val - 1) (pre_lt t) = tok t.val t.isLt := by
    funext p
    exact Fin.ext (by show (t.val - 1) / 88 * 1024 + p.val = t.val / 88 * 1024 + p.val; omega)
  have hb := ih.hb
  have cm := ih.cmb
  have ac := ih.acc
  rw [ht] at hb cm ac
  refine ⟨fun p k => ?_, fun p e => ?_, fun p j => (acc_N m c t h0 _).trans ?_⟩
  · rw [hb_N m c t h0]; exact hb p k
  · rw [cmb_N m c t h0]; exact cm p e
  · rw [step m c t _ _ _ (tok t.val t.isLt) hb cm p j, ac, Finset.sum_range_succ _ (t.val % 88)]
    have : (t.val - 1) % 88 + 1 = t.val % 88 := by omega
    rw [this]

theorem inv (c : Dev nD) (hf : ∀ r e, Fin' (S m c r e)) : ∀ (n : ℕ) (h : n < cfg0.N), Inv m c n h := by
  intro n
  induction n with
  | zero => exact fun h => inv_A m c hf ⟨0, h⟩ rfl
  | succ n ih =>
    intro h
    by_cases h0 : (n + 1) % 88 = 0
    · exact inv_A m c hf ⟨n + 1, h⟩ h0
    · exact inv_N m c ⟨n + 1, h⟩ h0 (ih (Nat.lt_of_succ_lt h))

theorem emb7 (t : Fin cfg0.N) (p j : Fin 1024) : ((cfg0.win 7).blk t).view.emb (ix2 p j) = ix2 (tok t.val t.isLt p) j := by
  blk_ext [idx t, tok]

theorem out_ref (c : Dev nD) (hf : ∀ r e, Fin' (S m c r e)) (t : Fin cfg0.N) (h1 : t.val % 88 = 87) (p j : Fin 1024) :
    (outsAt0 m c t.val t.isLt).1 (ix2 p j)
      = Cert.MoeRefIdeal.Read.val_main_v164 (F := Ideal) (X0 m c) (X1 m c) (X2 m c) (X3 m c) (X4 m c) (X5 m c) (X6 m c) (ix2 (tok t.val t.isLt p) j) := by
  choose g hg using hf (tok t.val t.isLt p)
  refine Eq.trans ?_ (Cert.MoeRefIdeal.Row.ref_apply _ _ _ _ _ _ _ _ g hg j).symm
  rw [out_C m c t h1, out_apply]
  have ac := (inv m c hf t.val t.isLt).acc p
  have e6 : (fun k => B6 m c t (ix2 0 k)) = fun k => X6 m c (ix1 k) := funext fun k => blk6 m c t k
  have hw : ∀ e, NonnegFin (wt (S m c (tok t.val t.isLt p)) e) := wt_nonneg _ g hg
  rw [e6]
  unfold moeRow
  refine congrArg (fun f => nrm f _ j) (funext fun j => ?_)
  rw [ac, h1, sum_tiles _ _ _ hw, blk0]
  rfl

/-- The array the call returns is the reference's, when every score is a finite number. -/
theorem final7 (c : Dev nD) (hf : ∀ r e, Fin' (S m c r e)) : (dats m 0 c).arrAt 7 (cfgs 0).N
    = Cert.MoeRefIdeal.Read.val_main_v164 (F := Ideal) (X0 m c) (X1 m c) (X2 m c) (X3 m c) (X4 m c) (X5 m c) (X6 m c) := by
  refine (dats m 0 c).arrAt_eq_of_covers 7 _ (by decide +kernel) fun t ht y => ?_
  have h1 : t.val % 88 = 87 := by
    by_contra h
    by_cases h0 : t.val % 88 = 0
    · exact absurd ht (by rw [noFlush0_7_A t ((hcond0_0 t).mpr h0) (fun q => h ((hcond0_1 t).mp q))]; decide)
    · exact absurd ht (by rw [noFlush0_7_B t (fun q => h0 ((hcond0_0 t).mp q)) (fun q => h ((hcond0_1 t).mp q))]; decide)
  blk_simp
  rw [after0_7]
  idx_vars y
  exact (out_ref m c hf t h1 _ _).trans (congrArg _ (emb7 t _ _).symm)

end Cert.MoeIdeal.Final
end
-- ==== Proof.MoeClaims.lean ====
module

public import proofs.«01_k».proof.Defs
public import proofs.«01_k».proof.Proof.Gen.Moe
public import proofs.«01_k».proof.Proof.Gen.Moe.Frame
public import proofs.«01_k».proof.Proof.Gen.MoeIdeal
public import proofs.«01_k».proof.Proof.Gen.MoeIdeal.Frame
public import proofs.«01_k».proof.Proof.Gen.MoeIdeal.Value
public import proofs.«01_k».proof.Proof.Gen.MoeRefIdeal
public import proofs.«01_k».proof.Proof.Gen.MoeRefIdeal.Run
public import proofs.«01_k».proof.Proof.Gen.MoeRefIdeal.Read
public import proofs.«01_k».proof.Proof.MoeFin
public import proofs.«01_k».proof.Proof.MoeValue
public import Idealize.ShloMosaic.Lib.Claim

@[expose] public section

set_option maxRecDepth 16384

noncomputable section

namespace Cert.Proof.Moe

open Idealize.ShloMosaic Idealize.ShloMosaic.TcCoe Idealize.SL.Sem

theorem frame_kernel : Cert.quiescent_Moe (hMoe := Cert.Moe.Gen.facts) := fun m ρ _ => Cert.Moe.Gen.frame m ρ

theorem frame_ideal : Cert.quiescent_MoeIdeal (hMoeIdeal := Cert.MoeIdeal.Gen.facts) := fun m ρ _ => Cert.MoeIdeal.Gen.frame m ρ

theorem frame_ideal_pre : Cert.quiescent_MoeIdeal_pre_finite_moe (hMoeIdeal := Cert.MoeIdeal.Gen.facts)
    (hPre_finite_moe := Cert.Pre_finite_moe.facts) := fun m ρ _ => Cert.MoeIdeal.Gen.frame m ρ

theorem frame_reference : Cert.quiescent_MoeRefIdeal (hMoeRefIdeal := Cert.MoeRefIdeal.Gen.facts) := fun m ρ _ =>
  (θ_run Cert.MoeRefIdeal.defs _ _).mono (fun r h => ⟨fun c => (h c).2, sem_eq_zero_of_no_sems (by decide) r.2⟩)
    (Cert.MoeRefIdeal.Value.run (F := Ideal) m ρ)

theorem frame_reference_pre : Cert.quiescent_MoeRefIdeal_pre_finite_moe (hMoeRefIdeal := Cert.MoeRefIdeal.Gen.facts)
    (hPre_finite_moe := Cert.Pre_finite_moe.facts) := fun m ρ _ =>
  (θ_run Cert.MoeRefIdeal.defs _ _).mono (fun r h => ⟨fun c => (h c).2, sem_eq_zero_of_no_sems (by decide) r.2⟩)
    (Cert.MoeRefIdeal.Value.run (F := Ideal) m ρ)

theorem preserved : Cert.preserves_Moe_MoeIdeal := trivial

/-- Under the precondition every token's scores are finite numbers. -/
theorem scores (m : (ℓ : Loc Cert.MoeIdeal.nD Cert.MoeIdeal.τ Cert.MoeIdeal.sig) → Buf (Elt Ideal) ℓ)
    (h : Cert.Pre_MoeIdeal_finite_moe (hPre_finite_moe := Cert.Pre_finite_moe.facts) m) (c : Dev Cert.MoeIdeal.nD) (r : Fin 65536) (e : Fin 8) :
    Cert.MoePure.Fin' (Cert.MoeIdeal.Final.S m c r e) :=
  Cert.MoePure.score_fin _ _ _ (fun k => Cert.Pre_finite_moe.at_x _ _ _ _ _ _ _ (h c) r k)
    (fun k => Cert.Pre_finite_moe.at_g _ _ _ _ _ _ _ (h c) k) (fun k e => Cert.Pre_finite_moe.at_r _ _ _ _ _ _ _ (h c) k e) e

/-- The call's output array is the reference's result, when every score is a finite number. -/
theorem value : Cert.algebraic_MoeIdeal_MoeRefIdeal_pre_finite_moe (hMoeIdeal := Cert.MoeIdeal.Gen.facts)
    (hMoeRefIdeal := Cert.MoeRefIdeal.Gen.facts) (hPre_finite_moe := Cert.Pre_finite_moe.facts) := by
  pair_intro
  · run_from Cert.MoeIdeal.Gen.run_main m g
    all_goals
      simp only [List.flatten_cons, List.flatten_nil, List.cons_append, List.nil_append, List.append_nil]
      entry_read
      rfl
  · run_from Cert.MoeRefIdeal.Value.run m' g'
    have ha := hagree c
    have e := Cert.MoeRefIdeal.Read.val_main_v164_eq (F := Ideal) (StableHlo.launchContents m' c)
    simp only [StableHlo.launchContents_devRef, ha] at e
    exact e.trans (Cert.MoeIdeal.Final.final7 m c (scores m hpre c)).symm

end Cert.Proof.Moe

end
-- ==== Proof.lean ====
module

public import proofs.«01_k».proof.Defs
public import proofs.«01_k».proof.Proof.CrossClaims
public import proofs.«01_k».proof.Proof.FfnClaims
public import proofs.«01_k».proof.Proof.MergeClaims
public import proofs.«01_k».proof.Proof.MoeClaims

@[expose] public section

noncomputable section

namespace Cert.Proof

/-- Every frame, the preservations and the value claim of each call, as its own module proves them. -/
theorem claim : Cert.Claim :=
  ⟨Cert.Cross.Gen.facts, Cert.CrossIdeal.Gen.facts, Cert.CrossRefIdeal.Gen.facts,
    Cert.Ffn.Gen.facts, Cert.FfnIdeal.Gen.facts, Cert.FfnRefIdeal.Gen.facts,
    Cert.Merge.Gen.facts, Cert.MergeIdeal.Gen.facts, Cert.MergeRefIdeal.Gen.facts,
    Cert.Moe.Gen.facts, Cert.MoeIdeal.Gen.facts, Cert.MoeRefIdeal.Gen.facts, Cert.Pre_finite_moe.facts,
    Cross.frame_kernel, Cross.frame_ideal, Cross.frame_reference,
    Ffn.frame_kernel, Ffn.frame_ideal, Ffn.frame_reference,
    Merge.frame_kernel, Merge.frame_ideal, Merge.frame_reference,
    Moe.frame_kernel, Moe.frame_ideal, Moe.frame_ideal_pre, Moe.frame_reference, Moe.frame_reference_pre,
    Cross.preserved, Cross.value,
    Ffn.preserved, Ffn.value,
    Merge.preserved, Merge.value,
    Moe.preserved, Moe.value⟩

end Cert.Proof

end
